-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_network [hPre_finite_network : Cert.Pre_finite_network.Facts] (m : (ℓ : Loc Cert.KernelIdeal.nD Cert.KernelIdeal.τ Cert.KernelIdeal.sig) → Buf (Elt Ideal) ℓ) : Prop :=
  ∀ c : Dev Cert.KernelIdeal.nD,
    (Cert.Pre_finite_network.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_network [hPre_finite_network : Cert.Pre_finite_network.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_network.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_KernelIdeal_pre_finite_network [hKernelIdeal : Cert.KernelIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_network m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_ReferenceIdeal_pre_finite_network [hReferenceIdeal : Cert.ReferenceIdeal.Facts] [hPre_finite_network : Cert.Pre_finite_network.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_network m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def preserves_Kernel_KernelIdeal : Prop :=
  True

def algebraic_KernelIdeal_ReferenceIdeal_pre_finite_network [hKernelIdeal : Cert.KernelIdeal.Facts] [hReferenceIdeal : Cert.ReferenceIdeal.Facts] [hPre_finite_network : Cert.Pre_finite_network.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_network m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_network : Cert.Pre_finite_network.Facts),
    quiescent_Kernel (hKernel := hKernel)
    ∧ quiescent_KernelIdeal (hKernelIdeal := hKernelIdeal)
    ∧ quiescent_KernelIdeal_pre_finite_network (hKernelIdeal := hKernelIdeal) (hPre_finite_network := hPre_finite_network)
    ∧ quiescent_ReferenceIdeal (hReferenceIdeal := hReferenceIdeal)
    ∧ quiescent_ReferenceIdeal_pre_finite_network (hReferenceIdeal := hReferenceIdeal) (hPre_finite_network := hPre_finite_network)
    ∧ preserves_Kernel_KernelIdeal
    ∧ algebraic_KernelIdeal_ReferenceIdeal_pre_finite_network (hKernelIdeal := hKernelIdeal) (hReferenceIdeal := hReferenceIdeal) (hPre_finite_network := hPre_finite_network)
-- ==== Pre_finite_network.lean ====
abbrev S32768x575 : Shape := ⟨2, ![32768, 575]⟩
abbrev S575x100 : Shape := ⟨2, ![575, 100]⟩
abbrev S100 : Shape := ⟨1, ![100]⟩
abbrev S100x50 : Shape := ⟨2, ![100, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S100x512 : Shape := ⟨2, ![100, 512]⟩
abbrev S512 : Shape := ⟨1, ![512]⟩
abbrev S512x50 : Shape := ⟨2, ![512, 50]⟩
abbrev S50x2 : Shape := ⟨2, ![50, 2]⟩
abbrev S2 : Shape := ⟨1, ![2]⟩
abbrev S16 : Shape := ⟨1, ![16]⟩
abbrev S_ : Shape := ⟨0, ![]⟩

class Facts : Prop where
  bcast_S_S32768x575 : S_.BroadcastsInDim S32768x575 (![] : Fin 0 → Fin S32768x575.rank)
  reducesTo_S32768x575_S_d0_1 : S32768x575.ReducesTo [0, 1] S_
  h_S_ : 0 < S_.numel
  bcast_S_S575x100 : S_.BroadcastsInDim S575x100 (![] : Fin 0 → Fin S575x100.rank)
  reducesTo_S575x100_S_d0_1 : S575x100.ReducesTo [0, 1] S_
  bcast_S_S100x50 : S_.BroadcastsInDim S100x50 (![] : Fin 0 → Fin S100x50.rank)
  reducesTo_S100x50_S_d0_1 : S100x50.ReducesTo [0, 1] S_
  bcast_S_S50x50 : S_.BroadcastsInDim S50x50 (![] : Fin 0 → Fin S50x50.rank)
  reducesTo_S50x50_S_d0_1 : S50x50.ReducesTo [0, 1] S_
  bcast_S_S50x1 : S_.BroadcastsInDim S50x1 (![] : Fin 0 → Fin S50x1.rank)
  reducesTo_S50x1_S_d0_1 : S50x1.ReducesTo [0, 1] S_

variable [Facts]

def fn_part1 {F : FTy → Type} [FloatOps F] (main_arg7 : FVec F S50x1 .f32) (main_v13 : IVec S_ 1) (main_v16 : IVec S50x50 1) : IVec S_ 1 :=
  let main_c_5 : IVec S_ 1 := constantI S_ 1 1#1
  let main_v17 : IVec S_ 1 := (fun x v => Host.reduce IntOp.andi x v reducesTo_S50x50_S_d0_1 h_S_) main_v16 main_c_5
  let main_v18 : IVec S_ 1 := andi main_v13 main_v17
  let main_v19 : FVec F S50x1 .f32 := Host.absf main_arg7
  let main_cst_6 : FVec F S_ .f32 := constant S_ .f32 0x7F800000#32
  let main_v20 : FVec F S50x1 .f32 := broadcastInDim S50x1 ![] bcast_S_S50x1 main_cst_6
  let main_v21 : IVec S50x1 1 := cmpf .olt main_v19 main_v20
  let main_c_7 : IVec S_ 1 := constantI S_ 1 1#1
  let main_v22 : IVec S_ 1 := (fun x v => Host.reduce IntOp.andi x v reducesTo_S50x1_S_d0_1 h_S_) main_v21 main_c_7
  let main_v23 : IVec S_ 1 := andi main_v18 main_v22
  main_v23

def fn {F : FTy → Type} [FloatOps F] (main_arg0 : FVec F S32768x575 .f32) (main_arg1 : FVec F S575x100 .f32) (main_arg2 : FVec F S100 .f32) (main_arg3 : FVec F S100x50 .f32) (main_arg4 : FVec F S50 .f32) (main_arg5 : FVec F S50x50 .f32) (main_arg6 : FVec F S50 .f32) (main_arg7 : FVec F S50x1 .f32) (main_arg8 : FVec F S1 .f32) (main_arg9 : FVec F S100x512 .f32) (main_arg10 : FVec F S512 .f32) (main_arg11 : FVec F S512 .f32) (main_arg12 : FVec F S512 .f32) (main_arg13 : FVec F S512x50 .f32) (main_arg14 : FVec F S50 .f32) (main_arg15 : FVec F S50x2 .f32) (main_arg16 : FVec F S2 .f32) (main_arg17 : IVec S16 32) : IVec S_ 1 :=
  let main_v0 : FVec F S32768x575 .f32 := Host.absf main_arg0
  let main_cst : FVec F S_ .f32 := constant S_ .f32 0x7F800000#32
  let main_v1 : FVec F S32768x575 .f32 := broadcastInDim S32768x575 ![] bcast_S_S32768x575 main_cst
  let main_v2 : IVec S32768x575 1 := cmpf .olt main_v0 main_v1
  let main_c : IVec S_ 1 := constantI S_ 1 1#1
  let main_v3 : IVec S_ 1 := (fun x v => Host.reduce IntOp.andi x v reducesTo_S32768x575_S_d0_1 h_S_) main_v2 main_c
  let main_v4 : FVec F S575x100 .f32 := Host.absf main_arg1
  let main_cst_0 : FVec F S_ .f32 := constant S_ .f32 0x7F800000#32
  let main_v5 : FVec F S575x100 .f32 := broadcastInDim S575x100 ![] bcast_S_S575x100 main_cst_0
  let main_v6 : IVec S575x100 1 := cmpf .olt main_v4 main_v5
  let main_c_1 : IVec S_ 1 := constantI S_ 1 1#1
  let main_v7 : IVec S_ 1 := (fun x v => Host.reduce IntOp.andi x v reducesTo_S575x100_S_d0_1 h_S_) main_v6 main_c_1
  let main_v8 : IVec S_ 1 := andi main_v3 main_v7
  let main_v9 : FVec F S100x50 .f32 := Host.absf main_arg3
  let main_cst_2 : FVec F S_ .f32 := constant S_ .f32 0x7F800000#32
  let main_v10 : FVec F S100x50 .f32 := broadcastInDim S100x50 ![] bcast_S_S100x50 main_cst_2
  let main_v11 : IVec S100x50 1 := cmpf .olt main_v9 main_v10
  let main_c_3 : IVec S_ 1 := constantI S_ 1 1#1
  let main_v12 : IVec S_ 1 := (fun x v => Host.reduce IntOp.andi x v reducesTo_S100x50_S_d0_1 h_S_) main_v11 main_c_3
  let main_v13 : IVec S_ 1 := andi main_v8 main_v12
  let main_v14 : FVec F S50x50 .f32 := Host.absf main_arg5
  let main_cst_4 : FVec F S_ .f32 := constant S_ .f32 0x7F800000#32
  let main_v15 : FVec F S50x50 .f32 := broadcastInDim S50x50 ![] bcast_S_S50x50 main_cst_4
  let main_v16 : IVec S50x50 1 := cmpf .olt main_v14 main_v15
  fn_part1 (F := F) main_arg7 main_v13 main_v16
-- ==== Kernel.lean ====
abbrev S32768x575 : Shape := ⟨2, ![32768, 575]⟩
abbrev S575x100 : Shape := ⟨2, ![575, 100]⟩
abbrev S100 : Shape := ⟨1, ![100]⟩
abbrev S100x50 : Shape := ⟨2, ![100, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S100x512 : Shape := ⟨2, ![100, 512]⟩
abbrev S512 : Shape := ⟨1, ![512]⟩
abbrev S512x50 : Shape := ⟨2, ![512, 50]⟩
abbrev S50x2 : Shape := ⟨2, ![50, 2]⟩
abbrev S2 : Shape := ⟨1, ![2]⟩
abbrev S16 : Shape := ⟨1, ![16]⟩
abbrev S1x100 : Shape := ⟨2, ![1, 100]⟩
abbrev S1x50 : Shape := ⟨2, ![1, 50]⟩
abbrev S1x1 : Shape := ⟨2, ![1, 1]⟩
abbrev S1x512 : Shape := ⟨2, ![1, 512]⟩
abbrev S1x2 : Shape := ⟨2, ![1, 2]⟩
abbrev S16x2 : Shape := ⟨2, ![16, 2]⟩
abbrev S4096x575 : Shape := ⟨2, ![4096, 575]⟩
abbrev S16x100 : Shape := ⟨2, ![16, 100]⟩
abbrev S4096x100 : Shape := ⟨2, ![4096, 100]⟩
abbrev S4096x50 : Shape := ⟨2, ![4096, 50]⟩
abbrev S4096x1 : Shape := ⟨2, ![4096, 1]⟩
abbrev S2048x1 : Shape := ⟨2, ![2048, 1]⟩
abbrev S2048x100 : Shape := ⟨2, ![2048, 100]⟩
abbrev S1x2048x1 : Shape := ⟨3, ![1, 2048, 1]⟩
abbrev S1x1x1 : Shape := ⟨3, ![1, 1, 1]⟩
abbrev S16x512 : Shape := ⟨2, ![16, 512]⟩
abbrev S16x50 : Shape := ⟨2, ![16, 50]⟩

abbrev nBuf : Space → Nat
  | .hbm => 29
  | .vmem => 20
  | .smem => 0
  | _ => 0

abbrev bufTy : (tb : Table) → Fin (tcTables nBuf tb) → BufTy
  | .hbm, ⟨0, _⟩ => ⟨S32768x575, .f32⟩
  | .hbm, ⟨1, _⟩ => ⟨S575x100, .f32⟩
  | .hbm, ⟨2, _⟩ => ⟨S100, .f32⟩
  | .hbm, ⟨3, _⟩ => ⟨S100x50, .f32⟩
  | .hbm, ⟨4, _⟩ => ⟨S50, .f32⟩
  | .hbm, ⟨5, _⟩ => ⟨S50x50, .f32⟩
  | .hbm, ⟨6, _⟩ => ⟨S50, .f32⟩
  | .hbm, ⟨7, _⟩ => ⟨S50x1, .f32⟩
  | .hbm, ⟨8, _⟩ => ⟨S1, .f32⟩
  | .hbm, ⟨9, _⟩ => ⟨S100x512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x50, .f32⟩
  | .hbm, ⟨14, _⟩ => ⟨S50, .f32⟩
  | .hbm, ⟨15, _⟩ => ⟨S50x2, .f32⟩
  | .hbm, ⟨16, _⟩ => ⟨S2, .f32⟩
  | .hbm, ⟨17, _⟩ => ⟨S16, .i32⟩
  | .hbm, ⟨18, _⟩ => ⟨S32768x575, .bf16⟩
  | .hbm, ⟨19, _⟩ => ⟨S1x100, .f32⟩
  | .hbm, ⟨20, _⟩ => ⟨S1x50, .f32⟩
  | .hbm, ⟨21, _⟩ => ⟨S1x50, .f32⟩
  | .hbm, ⟨22, _⟩ => ⟨S1x1, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x50, .f32⟩
  | .hbm, ⟨27, _⟩ => ⟨S1x2, .f32⟩
  | .hbm, ⟨28, _⟩ => ⟨S16x2, .f32⟩
  | .local _ .vmem, ⟨0, _⟩ => ⟨S4096x575, .bf16⟩
  | .local _ .vmem, ⟨1, _⟩ => ⟨S4096x575, .bf16⟩
  | .local _ .vmem, ⟨2, _⟩ => ⟨S575x100, .f32⟩
  | .local _ .vmem, ⟨3, _⟩ => ⟨S1x100, .f32⟩
  | .local _ .vmem, ⟨4, _⟩ => ⟨S100x50, .f32⟩
  | .local _ .vmem, ⟨5, _⟩ => ⟨S1x50, .f32⟩
  | .local _ .vmem, ⟨6, _⟩ => ⟨S50x50, .f32⟩
  | .local _ .vmem, ⟨7, _⟩ => ⟨S1x50, .f32⟩
  | .local _ .vmem, ⟨8, _⟩ => ⟨S50x1, .f32⟩
  | .local _ .vmem, ⟨9, _⟩ => ⟨S1x1, .f32⟩
  | .local _ .vmem, ⟨10, _⟩ => ⟨S100x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S512x50, .f32⟩
  | .local _ .vmem, ⟨15, _⟩ => ⟨S1x50, .f32⟩
  | .local _ .vmem, ⟨16, _⟩ => ⟨S50x2, .f32⟩
  | .local _ .vmem, ⟨17, _⟩ => ⟨S1x2, .f32⟩
  | .local _ .vmem, ⟨18, _⟩ => ⟨S16x2, .f32⟩
  | .local _ .vmem, ⟨19, _⟩ => ⟨S16x100, .f32⟩
  | _, _ => ⟨S32768x575, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c2_i32 : BitVec 32 := 2#32
  let v70 : BitVec 32 := Scalar.muli arg0 c2_i32
  let v71 : BitVec 32 := Scalar.addi v70 c0_i32
  let v72 : Index := Scalar.indexCast v71
  let c0_31 : Index := 0#32
  ![v72.toNat, 0]
def k0_cond1 (i : grid0.Coords) : BitVec 1 :=
  let arg0 : BitVec 32 := BitVec.ofNat 32 (i 0).val
  let c7_i32 : BitVec 32 := 7#32
  let v101 : BitVec 1 := Scalar.cmpi .eq arg0 c7_i32
  let v102 : BitVec 32 := Scalar.extui v101
  let c0_i32_37 : BitVec 32 := 0#32
  let v103 : BitVec 1 := Scalar.cmpi .ne v102 c0_i32_37
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x575 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S575x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S100x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S50x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S100x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x50 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S50x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S32768x575 : Shape := ⟨2, ![32768, 575]⟩
abbrev S575x100 : Shape := ⟨2, ![575, 100]⟩
abbrev S100 : Shape := ⟨1, ![100]⟩
abbrev S100x50 : Shape := ⟨2, ![100, 50]⟩
abbrev S50 : Shape := ⟨1, ![50]⟩
abbrev S50x50 : Shape := ⟨2, ![50, 50]⟩
abbrev S50x1 : Shape := ⟨2, ![50, 1]⟩
abbrev S1 : Shape := ⟨1, ![1]⟩
abbrev S100x512 : Shape := ⟨2, ![100, 512]⟩
abbrev S512 : Shape := ⟨1, ![512]⟩
abbrev S512x50 : Shape := ⟨2, ![512, 50]⟩
abbrev S50x2 : Shape := ⟨2, ![50, 2]⟩
abbrev S2 : Shape := ⟨1, ![2]⟩
abbrev S16 : Shape := ⟨1, ![16]⟩
abbrev S32768x100 : Shape := ⟨2, ![32768, 100]⟩
abbrev S1x100 : Shape := ⟨2, ![1, 100]⟩
abbrev S32768x50 : Shape := ⟨2, ![32768, 50]⟩
abbrev S1x50 : Shape := ⟨2, ![1, 50]⟩
abbrev S_ : Shape := ⟨0, ![]⟩
abbrev S32768x1 : Shape := ⟨2, ![32768, 1]⟩
abbrev S1x1 : Shape := ⟨2, ![1, 1]⟩
abbrev S16x2048x1 : Shape := ⟨3, ![16, 2048, 1]⟩
abbrev S16x1 : Shape := ⟨2, ![16, 1]⟩
abbrev S16x1x1 : Shape := ⟨3, ![16, 1, 1]⟩
abbrev S16x2048x100 : Shape := ⟨3, ![16, 2048, 100]⟩
abbrev S16x100 : Shape := ⟨2, ![16, 100]⟩
abbrev S16x512 : Shape := ⟨2, ![16, 512]⟩
abbrev S1x512 : Shape := ⟨2, ![1, 512]⟩
abbrev S16x50 : Shape := ⟨2, ![16, 50]⟩
abbrev S16x2 : Shape := ⟨2, ![16, 2]⟩
abbrev S1x2 : Shape := ⟨2, ![1, 2]⟩

abbrev nBuf : Space → Nat
  | .hbm => 186
  | .vmem => 0
  | .smem => 0
  | _ => 0

abbrev hbmTy0_0 (i : Nat) : BufTy := match i % 128 with
  | 0 => ⟨S32768x575, .f32⟩
  | 1 => ⟨S575x100, .f32⟩
  | 2 => ⟨S100, .f32⟩
  | 3 => ⟨S100x50, .f32⟩
  | 4 => ⟨S50, .f32⟩
  | 5 => ⟨S50x50, .f32⟩
  | 6 => ⟨S50, .f32⟩
  | 7 => ⟨S50x1, .f32⟩
  | 8 => ⟨S1, .f32⟩
  | 9 => ⟨S100x512, .f32⟩
  | 10 => ⟨S512, .f32⟩
  | 11 => ⟨S512, .f32⟩
  | 12 => ⟨S512, .f32⟩
  | 13 => ⟨S512x50, .f32⟩
  | 14 => ⟨S50, .f32⟩
  | 15 => ⟨S50x2, .f32⟩
  | 16 => ⟨S2, .f32⟩
  | 17 => ⟨S16, .i32⟩
  | 18 => ⟨S32768x100, .f32⟩
  | 19 => ⟨S1x100, .f32⟩
  | 20 => ⟨S32768x100, .f32⟩
  | 21 => ⟨S32768x100, .f32⟩
  | 22 => ⟨S32768x50, .f32⟩
  | 23 => ⟨S1x50, .f32⟩
  | 24 => ⟨S32768x50, .f32⟩
  | 25 => ⟨S32768x50, .f32⟩
  | 26 => ⟨S_, .f32⟩
  | 27 => ⟨S_, .f32⟩
  | 28 => ⟨S32768x50, .f32⟩
  | 29 => ⟨S32768x50, .i1⟩
  | 30 => ⟨S_, .f32⟩
  | 31 => ⟨S32768x50, .f32⟩
  | 32 => ⟨S32768x50, .i1⟩
  | 33 => ⟨S_, .f32⟩
  | 34 => ⟨S_, .f32⟩
  | 35 => ⟨S32768x50, .f32⟩
  | 36 => ⟨S32768x50, .f32⟩
  | 37 => ⟨S32768x50, .f32⟩
  | 38 => ⟨S_, .f32⟩
  | 39 => ⟨S32768x50, .f32⟩
  | 40 => ⟨S32768x50, .f32⟩
  | 41 => ⟨S32768x50, .f32⟩
  | 42 => ⟨S_, .f32⟩
  | 43 => ⟨S32768x50, .f32⟩
  | 44 => ⟨S32768x50, .f32⟩
  | 45 => ⟨S32768x50, .f32⟩
  | 46 => ⟨S1x50, .f32⟩
  | 47 => ⟨S32768x50, .f32⟩
  | 48 => ⟨S32768x50, .f32⟩
  | 49 => ⟨S_, .f32⟩
  | 50 => ⟨S_, .f32⟩
  | 51 => ⟨S32768x50, .f32⟩
  | 52 => ⟨S32768x50, .i1⟩
  | 53 => ⟨S_, .f32⟩
  | 54 => ⟨S32768x50, .f32⟩
  | 55 => ⟨S32768x50, .i1⟩
  | 56 => ⟨S_, .f32⟩
  | 57 => ⟨S_, .f32⟩
  | 58 => ⟨S32768x50, .f32⟩
  | 59 => ⟨S32768x50, .f32⟩
  | 60 => ⟨S32768x50, .f32⟩
  | 61 => ⟨S_, .f32⟩
  | 62 => ⟨S32768x50, .f32⟩
  | 63 => ⟨S32768x50, .f32⟩
  | 64 => ⟨S32768x50, .f32⟩
  | 65 => ⟨S_, .f32⟩
  | 66 => ⟨S32768x50, .f32⟩
  | 67 => ⟨S32768x50, .f32⟩
  | 68 => ⟨S32768x1, .f32⟩
  | 69 => ⟨S1x1, .f32⟩
  | 70 => ⟨S32768x1, .f32⟩
  | 71 => ⟨S32768x1, .f32⟩
  | 72 => ⟨S16x2048x1, .f32⟩
  | 73 => ⟨S_, .f32⟩
  | 74 => ⟨S16x1, .f32⟩
  | 75 => ⟨S_, .f32⟩
  | 76 => ⟨S16x1, .f32⟩
  | 77 => ⟨S16x1, .f32⟩
  | 78 => ⟨S16x1x1, .f32⟩
  | 79 => ⟨S16x2048x1, .f32⟩
  | 80 => ⟨S16x2048x1, .f32⟩
  | 81 => ⟨S16x2048x1, .f32⟩
  | 82 => ⟨S_, .f32⟩
  | 83 => ⟨S16x1, .f32⟩
  | 84 => ⟨S16x1x1, .f32⟩
  | 85 => ⟨S16x2048x1, .f32⟩
  | 86 => ⟨S16x2048x1, .f32⟩
  | 87 => ⟨S16x2048x100, .f32⟩
  | 88 => ⟨S16x2048x100, .f32⟩
  | 89 => ⟨S16x2048x100, .f32⟩
  | 90 => ⟨S_, .f32⟩
  | 91 => ⟨S16x100, .f32⟩
  | 92 => ⟨S16x512, .f32⟩
  | 93 => ⟨S1x512, .f32⟩
  | 94 => ⟨S16x512, .f32⟩
  | 95 => ⟨S16x512, .f32⟩
  | 96 => ⟨S_, .f32⟩
  | 97 => ⟨S512, .f32⟩
  | 98 => ⟨S_, .f32⟩
  | 99 => ⟨S512, .f32⟩
  | 100 => ⟨S512, .f32⟩
  | 101 => ⟨S_, .i32⟩
  | 102 => ⟨S_, .f32⟩
  | 103 => ⟨S512, .f32⟩
  | 104 => ⟨S1x512, .f32⟩
  | 105 => ⟨S_, .f32⟩
  | 106 => ⟨S1x512, .f32⟩
  | 107 => ⟨S1x512, .f32⟩
  | 108 => ⟨S16x512, .f32⟩
  | 109 => ⟨S16x512, .f32⟩
  | 110 => ⟨S16x512, .f32⟩
  | 111 => ⟨S_, .f32⟩
  | 112 => ⟨S_, .f32⟩
  | 113 => ⟨S_, .f32⟩
  | 114 => ⟨S_, .f32⟩
  | 115 => ⟨S512, .f32⟩
  | 116 => ⟨S512, .f32⟩
  | 117 => ⟨S512, .f32⟩
  | 118 => ⟨S_, .f32⟩
  | 119 => ⟨S_, .i1⟩
  | 120 => ⟨S_, .f32⟩
  | 121 => ⟨S_, .f32⟩
  | 122 => ⟨S512, .f32⟩
  | 123 => ⟨S512, .f32⟩
  | 124 => ⟨S1x512, .f32⟩
  | 125 => ⟨S16x512, .f32⟩
  | 126 => ⟨S16x512, .f32⟩
  | 127 => ⟨S_, .f32⟩
  | _ => ⟨S32768x575, .f32⟩

abbrev hbmTy0_1 (i : Nat) : BufTy := match i % 128 with
  | 0 => ⟨S512, .f32⟩
  | 1 => ⟨S512, .f32⟩
  | 2 => ⟨S512, .f32⟩
  | 3 => ⟨S1x512, .f32⟩
  | 4 => ⟨S16x512, .f32⟩
  | 5 => ⟨S16x512, .f32⟩
  | 6 => ⟨S1x512, .f32⟩
  | 7 => ⟨S16x512, .f32⟩
  | 8 => ⟨S16x512, .f32⟩
  | 9 => ⟨S1x512, .f32⟩
  | 10 => ⟨S16x512, .f32⟩
  | 11 => ⟨S16x512, .f32⟩
  | 12 => ⟨S_, .f32⟩
  | 13 => ⟨S_, .f32⟩
  | 14 => ⟨S16x512, .f32⟩
  | 15 => ⟨S16x512, .i1⟩
  | 16 => ⟨S_, .f32⟩
  | 17 => ⟨S16x512, .f32⟩
  | 18 => ⟨S16x512, .i1⟩
  | 19 => ⟨S_, .f32⟩
  | 20 => ⟨S_, .f32⟩
  | 21 => ⟨S16x512, .f32⟩
  | 22 => ⟨S16x512, .f32⟩
  | 23 => ⟨S16x512, .f32⟩
  | 24 => ⟨S_, .f32⟩
  | 25 => ⟨S16x512, .f32⟩
  | 26 => ⟨S16x512, .f32⟩
  | 27 => ⟨S16x512, .f32⟩
  | 28 => ⟨S_, .f32⟩
  | 29 => ⟨S16x512, .f32⟩
  | 30 => ⟨S16x512, .f32⟩
  | 31 => ⟨S16x50, .f32⟩
  | 32 => ⟨S1x50, .f32⟩
  | 33 => ⟨S16x50, .f32⟩
  | 34 => ⟨S16x50, .f32⟩
  | 35 => ⟨S_, .f32⟩
  | 36 => ⟨S_, .f32⟩
  | 37 => ⟨S16x50, .f32⟩
  | 38 => ⟨S16x50, .i1⟩
  | 39 => ⟨S_, .f32⟩
  | 40 => ⟨S16x50, .f32⟩
  | 41 => ⟨S16x50, .i1⟩
  | 42 => ⟨S_, .f32⟩
  | 43 => ⟨S_, .f32⟩
  | 44 => ⟨S16x50, .f32⟩
  | 45 => ⟨S16x50, .f32⟩
  | 46 => ⟨S16x50, .f32⟩
  | 47 => ⟨S_, .f32⟩
  | 48 => ⟨S16x50, .f32⟩
  | 49 => ⟨S16x50, .f32⟩
  | 50 => ⟨S16x50, .f32⟩
  | 51 => ⟨S_, .f32⟩
  | 52 => ⟨S16x50, .f32⟩
  | 53 => ⟨S16x50, .f32⟩
  | 54 => ⟨S16x2, .f32⟩
  | 55 => ⟨S1x2, .f32⟩
  | 56 => ⟨S16x2, .f32⟩
  | 57 => ⟨S16x2, .f32⟩
  | _ => ⟨S32768x575, .f32⟩

abbrev hbmTy (i : Nat) : BufTy := match i / 128 with
  | 0 => hbmTy0_0 i
  | 1 => hbmTy0_1 i
  | _ => ⟨S32768x575, .f32⟩

abbrev bufTy : (tb : Table) → Fin (tcTables nBuf tb) → BufTy
  | .hbm, ⟨i, _⟩ => hbmTy i
  | _, _ => ⟨S32768x575, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_call0_cst : Ref sig .tc := ⟨.hbm, 26, rfl⟩
abbrev main_call0_call0_cst : Ref sig .tc := ⟨.hbm, 27, rfl⟩
abbrev main_call0_call0_v0 : Ref sig .tc := ⟨.hbm, 28, rfl⟩
abbrev main_call0_call0_v1 : Ref sig .tc := ⟨.hbm, 29, rfl⟩
abbrev main_call0_call0_cst_0 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_cst_1 : Ref sig .tc := ⟨.hbm, 33, rfl⟩
abbrev main_call0_call0_call0_v0 : Ref sig .tc := ⟨.hbm, 34, rfl⟩
abbrev main_call0_call0_call0_v1 : Ref sig .tc := ⟨.hbm, 35, rfl⟩
abbrev main_call0_call0_v4 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_v0 : Ref sig .tc := ⟨.hbm, 41, rfl⟩
abbrev main_call0_cst_0 : Ref sig .tc := ⟨.hbm, 42, rfl⟩
abbrev main_call0_v1 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_call1_cst : Ref sig .tc := ⟨.hbm, 49, rfl⟩
abbrev main_call1_call0_cst : Ref sig .tc := ⟨.hbm, 50, rfl⟩
abbrev main_call1_call0_v0 : Ref sig .tc := ⟨.hbm, 51, rfl⟩
abbrev main_call1_call0_v1 : Ref sig .tc := ⟨.hbm, 52, rfl⟩
abbrev main_call1_call0_cst_0 : Ref sig .tc := ⟨.hbm, 53, rfl⟩
abbrev main_call1_call0_v2 : Ref sig .tc := ⟨.hbm, 54, rfl⟩
abbrev main_call1_call0_v3 : Ref sig .tc := ⟨.hbm, 55, rfl⟩
abbrev main_call1_call0_cst_1 : Ref sig .tc := ⟨.hbm, 56, rfl⟩
abbrev main_call1_call0_call0_v0 : Ref sig .tc := ⟨.hbm, 57, rfl⟩
abbrev main_call1_call0_call0_v1 : Ref sig .tc := ⟨.hbm, 58, rfl⟩
abbrev main_call1_call0_v4 : Ref sig .tc := ⟨.hbm, 59, rfl⟩
abbrev main_call1_call0_v5 : Ref sig .tc := ⟨.hbm, 60, rfl⟩
abbrev main_call1_call0_v6 : Ref sig .tc := ⟨.hbm, 61, rfl⟩
abbrev main_call1_call0_v7 : Ref sig .tc := ⟨.hbm, 62, rfl⟩
abbrev main_call1_call0_v8 : Ref sig .tc := ⟨.hbm, 63, rfl⟩
abbrev main_call1_v0 : Ref sig .tc := ⟨.hbm, 64, rfl⟩
abbrev main_call1_cst_0 : Ref sig .tc := ⟨.hbm, 65, rfl⟩
abbrev main_call1_v1 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_cst : Ref sig .tc := ⟨.hbm, 73, rfl⟩
abbrev main_v19 : Ref sig .tc := ⟨.hbm, 74, rfl⟩
abbrev main_cst_0 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_1 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_2 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_cst_3 : Ref sig .tc := ⟨.hbm, 96, rfl⟩
abbrev main_v38 : Ref sig .tc := ⟨.hbm, 97, rfl⟩
abbrev main_cst_4 : Ref sig .tc := ⟨.hbm, 98, rfl⟩
abbrev main_v39 : Ref sig .tc := ⟨.hbm, 99, rfl⟩
abbrev main_v40 : Ref sig .tc := ⟨.hbm, 100, rfl⟩
abbrev main_c : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_cst_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_cst_1 : Ref sig .tc := ⟨.hbm, 112, rfl⟩
abbrev main_call2_v8 : Ref sig .tc := ⟨.hbm, 113, rfl⟩
abbrev main_call2_cst_2 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_cst_3 : Ref sig .tc := ⟨.hbm, 118, rfl⟩
abbrev main_call2_v12 : Ref sig .tc := ⟨.hbm, 119, rfl⟩
abbrev main_call2_cst_4 : Ref sig .tc := ⟨.hbm, 120, rfl⟩
abbrev main_call2_call0_v0 : Ref sig .tc := ⟨.hbm, 121, rfl⟩
abbrev main_call2_call0_v1 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_cst_5 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_v48 : Ref sig .tc := ⟨.hbm, 131, rfl⟩
abbrev main_v49 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_call3_cst : Ref sig .tc := ⟨.hbm, 140, rfl⟩
abbrev main_call3_call0_cst : Ref sig .tc := ⟨.hbm, 141, rfl⟩
abbrev main_call3_call0_v0 : Ref sig .tc := ⟨.hbm, 142, rfl⟩
abbrev main_call3_call0_v1 : Ref sig .tc := ⟨.hbm, 143, rfl⟩
abbrev main_call3_call0_cst_0 : Ref sig .tc := ⟨.hbm, 144, rfl⟩
abbrev main_call3_call0_v2 : Ref sig .tc := ⟨.hbm, 145, rfl⟩
abbrev main_call3_call0_v3 : Ref sig .tc := ⟨.hbm, 146, rfl⟩
abbrev main_call3_call0_cst_1 : Ref sig .tc := ⟨.hbm, 147, rfl⟩
abbrev main_call3_call0_call0_v0 : Ref sig .tc := ⟨.hbm, 148, rfl⟩
abbrev main_call3_call0_call0_v1 : Ref sig .tc := ⟨.hbm, 149, rfl⟩
abbrev main_call3_call0_v4 : Ref sig .tc := ⟨.hbm, 150, rfl⟩
abbrev main_call3_call0_v5 : Ref sig .tc := ⟨.hbm, 151, rfl⟩
abbrev main_call3_call0_v6 : Ref sig .tc := ⟨.hbm, 152, rfl⟩
abbrev main_call3_call0_v7 : Ref sig .tc := ⟨.hbm, 153, rfl⟩
abbrev main_call3_call0_v8 : Ref sig .tc := ⟨.hbm, 154, rfl⟩
abbrev main_call3_v0 : Ref sig .tc := ⟨.hbm, 155, rfl⟩
abbrev main_call3_cst_0 : Ref sig .tc := ⟨.hbm, 156, rfl⟩
abbrev main_call3_v1 : Ref sig .tc := ⟨.hbm, 157, rfl⟩
abbrev main_v57 : Ref sig .tc := ⟨.hbm, 158, rfl⟩
abbrev main_v58 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_call4_cst : Ref sig .tc := ⟨.hbm, 163, rfl⟩
abbrev main_call4_call0_cst : Ref sig .tc := ⟨.hbm, 164, rfl⟩
abbrev main_call4_call0_v0 : Ref sig .tc := ⟨.hbm, 165, rfl⟩
abbrev main_call4_call0_v1 : Ref sig .tc := ⟨.hbm, 166, rfl⟩
abbrev main_call4_call0_cst_0 : Ref sig .tc := ⟨.hbm, 167, rfl⟩
abbrev main_call4_call0_v2 : Ref sig .tc := ⟨.hbm, 168, rfl⟩
abbrev main_call4_call0_v3 : Ref sig .tc := ⟨.hbm, 169, rfl⟩
abbrev main_call4_call0_cst_1 : Ref sig .tc := ⟨.hbm, 170, rfl⟩
abbrev main_call4_call0_call0_v0 : Ref sig .tc := ⟨.hbm, 171, rfl⟩
abbrev main_call4_call0_call0_v1 : Ref sig .tc := ⟨.hbm, 172, rfl⟩
abbrev main_call4_call0_v4 : Ref sig .tc := ⟨.hbm, 173, rfl⟩
abbrev main_call4_call0_v5 : Ref sig .tc := ⟨.hbm, 174, rfl⟩
abbrev main_call4_call0_v6 : Ref sig .tc := ⟨.hbm, 175, rfl⟩
abbrev main_call4_call0_v7 : Ref sig .tc := ⟨.hbm, 176, rfl⟩
abbrev main_call4_call0_v8 : Ref sig .tc := ⟨.hbm, 177, rfl⟩
abbrev main_call4_v0 : Ref sig .tc := ⟨.hbm, 178, rfl⟩
abbrev main_call4_cst_0 : Ref sig .tc := ⟨.hbm, 179, rfl⟩
abbrev main_call4_v1 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩

abbrev nD : Nat := 1
abbrev τ : Topo := Topo.v7x

variable {F : FTy → Type} [FloatOps F]
-- ==== Proof.Inputs.lean ====
/- What the kernel's body is handed at a grid point: its seventeen input blocks, and the scratch array of the pooled
   bags with the two rows that one point writes. -/
module

public import proofs.«01_k».proof.Proof.Gen.KernelIdeal.Frame
public import proofs.«01_k».proof.Proof.Gen.KernelIdeal.Skeleton
public import Idealize.ShloMosaic.Lib.ValueIdxCore

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx
open Cert.KernelIdeal Cert.KernelIdeal.Gen

variable {F : FTy → Type} [FloatOps F]

local notation "𝕄" => MT nD τ sig Unit (Elt F) ℕ (UR sig nD τ) ℕ

/-- The contents of the seventeen input blocks at one point: the rows of `x`, then the weights and biases of the
    embedding, of the three attention layers, and of the output network. -/
structure Blocks (F : FTy → Type) [FloatOps F] where
  x0 : Vec F S4096x575 .bf16
  x1 : Vec F S575x100 .f32
  x2 : Vec F S1x100 .f32
  x3 : Vec F S100x50 .f32
  x4 : Vec F S1x50 .f32
  x5 : Vec F S50x50 .f32
  x6 : Vec F S1x50 .f32
  x7 : Vec F S50x1 .f32
  x8 : Vec F S1x1 .f32
  x9 : Vec F S100x512 .f32
  x10 : Vec F S1x512 .f32
  x11 : Vec F S1x512 .f32
  x12 : Vec F S1x512 .f32
  x13 : Vec F S512x50 .f32
  x14 : Vec F S1x50 .f32
  x15 : Vec F S50x2 .f32
  x16 : Vec F S1x2 .f32

namespace Blocks

variable (X : Blocks F)

/-- The embedded rows of the point's block. -/
def emb : FVec F S4096x100 .f32 := k0_pay7 X.x0 X.x1 X.x2

/-- The second attention layer's values before their activation. -/
def pre2 : FVec F S4096x50 .f32 := k0_pay8 X.x0 X.x1 X.x2 X.x3 X.x4 X.x5 X.x6

/-- Where those values are positive. -/
def pos2 : IVec S4096x50 1 := k0_pay9 X.x0 X.x1 X.x2 X.x3 X.x4 X.x5 X.x6

/-- The pooled row of the block's first bag. -/
def row0 : FVec F S1x100 .f32 := k0_pay11 X.emb X.pre2 X.pos2 X.x7 X.x8

/-- The pooled row of the block's second bag. -/
def row1 : FVec F S1x100 .f32 :=
  k0_pay1 (k0_pay12 X.pre2 X.pos2 X.x7 X.x8) (k0_pay13 X.emb) (k0_pay14 X.pre2 X.pos2 X.x7 X.x8)

/-- The output network's result on the pooled bags `s`. -/
def out (s : Vec F S16x100 .f32) : FVec F S16x2 .f32 :=
  k0_pay2 (k0_pay3 s X.x9 X.x10 X.x11 X.x12) (k0_pay4 s X.x9 X.x10 X.x11 X.x12) (k0_pay5 s X.x9 X.x10 X.x11 X.x12)
    (k0_pay6 (F := F)) X.x13 X.x14 X.x15 X.x16

end Blocks

/-- The pooled bags `s` with rows `2 n` and `2 n + 1` replaced by `p` and `q`. -/
def put2 (n : ℕ) (s : Vec F S16x100 .f32) (p q : FVec F S1x100 .f32) : Vec F S16x100 .f32 := fun x =>
  if (x 0).val = 2 * n + 1 then q (ix2 (0 : Fin 1) (x 1)) else if (x 0).val = 2 * n then p (ix2 (0 : Fin 1) (x 1)) else s x

end Cert.KernelIdeal.Hand

end
-- ==== Proof.Body.lean ====
/- One run of the kernel's body: what it leaves in the scratch array, and at the last point what it stores. -/
module

public import proofs.«01_k».proof.Proof.Inputs
public import Idealize.ShloMosaic.Lib.WritesUnit
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Cert.KernelIdeal Cert.KernelIdeal.Gen

variable {F : FTy → Type} [FloatOps F]

local notation "𝕄" => MT nD τ sig Unit (Elt F) ℕ (UR sig nD τ) ℕ

/-- The row a point's bag `j` goes to. -/
theorem off1_eq (i : grid0.Coords) (j : BitVec 32) (n : ℕ) (hj : j = BitVec.ofNat 32 n) (hn : n < 2) :
    k0_off1 i j = ![2 * (i 0).val + n, 0] := by
  have hi : (i 0).val < 8 := (i 0).isLt
  subst hj
  have e : (Scalar.indexCast (Scalar.addi (Scalar.muli (BitVec.ofNat 32 (i 0).val) 2#32) (BitVec.ofNat 32 n))).toNat
      = 2 * (i 0).val + n := by
    simp only [Scalar.indexCast, Scalar.addi, Scalar.muli, IntOp.addi, IntOp.muli, BitVec.toNat_add, BitVec.toNat_mul, BitVec.toNat_ofNat]
    omega
  unfold k0_off1
  simp only [e]

/-- Reading the scratch after a point's two row stores gives its former contents with the two rows replaced. -/
theorem read_rows (v : View sig .tc .vmem S16x100 .f32) (f : v.ty.Contents (Elt F)) (i : grid0.Coords)
    (p q : FVec F S1x100 .f32) (inb0 : ∀ a, k0_off1 i 0#32 a + S1x100.size a ≤ S16x100.size a)
    (inb1 : ∀ a, k0_off1 i 1#32 a + S1x100.size a ≤ S16x100.size a) :
    v.read (Elt F) (v.writes (Elt F) f
        [⟨Rect.unit (s := S16x100) (k0_off1 i 1#32) S1x100.size inb1, q⟩,
          ⟨Rect.unit (s := S16x100) (k0_off1 i 0#32) S1x100.size inb0, p⟩])
      = put2 (i 0).val (v.read (Elt F) f) p q := by
  have e0 := off1_eq i 0#32 0 rfl (by omega)
  have e1 := off1_eq i 1#32 1 rfl (by omega)
  funext x
  unfold put2
  have l0 : (x 0).val < 16 := (x 0).isLt
  have l1 : (x 1).val < 100 := (x 1).isLt
  split
  · next h =>
    exact View.read_writes_cons_unit_of_mem v f inb1 q _ x (ix2 (0 : Fin 1) (x 1)) e1 fun a => by
      match a with
      | ⟨0, _⟩ => show (x 0).val = 2 * (i 0).val + 1 + 0; omega
      | ⟨1, _⟩ => show (x 1).val = 0 + (x 1).val; omega
  · next h =>
    rw [View.read_writes_cons_unit_of_not_mem v f inb1 q _ x e1 0 (by
      show (x 0).val < 2 * (i 0).val + 1 ∨ 2 * (i 0).val + 1 + 1 ≤ (x 0).val; omega)]
    split
    · next h' =>
      exact View.read_writes_cons_unit_of_mem v f inb0 p _ x (ix2 (0 : Fin 1) (x 1)) e0 fun a => by
        match a with
        | ⟨0, _⟩ => show (x 0).val = 2 * (i 0).val + 0 + 0; omega
        | ⟨1, _⟩ => show (x 1).val = 0 + (x 1).val; omega
    · next h' =>
      exact View.read_writes_cons_unit_of_not_mem v f inb0 p _ x e0 0 (by
        show (x 0).val < 2 * (i 0).val + 0 ∨ 2 * (i 0).val + 0 + 1 ≤ (x 0).val; omega)

/-- A load of a whole memref held at contents `X` reads `X`. -/
theorem readAt_whole {s : Shape} {e : EltTy} {a : Memref sig .tc .vmem s e} (h : a.IsWhole) (X : s.Idx → Elt F e)
    {off : Fin s.rank → ℕ} (inb : ∀ a, off a + s.size a ≤ s.size a) :
    a.view.readAt (Elt F) (Rect.unit off s.size inb).toLoadRect (h.unread X) = X :=
  (View.readAt_full a.view _ inb).trans (h.read_unread X)

/-- The seventeen input blocks, each held by its memref. -/
def ins (c : Dev nD)
    (a1 : Memref sig .tc .vmem S4096x575 .bf16) (a2 : Memref sig .tc .vmem S575x100 .f32)
    (a3 : Memref sig .tc .vmem S1x100 .f32) (a4 : Memref sig .tc .vmem S100x50 .f32)
    (a5 : Memref sig .tc .vmem S1x50 .f32) (a6 : Memref sig .tc .vmem S50x50 .f32)
    (a7 : Memref sig .tc .vmem S1x50 .f32) (a8 : Memref sig .tc .vmem S50x1 .f32)
    (a9 : Memref sig .tc .vmem S1x1 .f32) (a10 : Memref sig .tc .vmem S100x512 .f32)
    (a11 : Memref sig .tc .vmem S1x512 .f32) (a12 : Memref sig .tc .vmem S1x512 .f32)
    (a13 : Memref sig .tc .vmem S1x512 .f32) (a14 : Memref sig .tc .vmem S512x50 .f32)
    (a15 : Memref sig .tc .vmem S1x50 .f32) (a16 : Memref sig .tc .vmem S50x2 .f32)
    (a17 : Memref sig .tc .vmem S1x2 .f32)
    (X : Blocks F) : sProp 𝕄 :=
  iprop(owns (c : Thread nD τ) a1 fullShare X.x0 ∗
    owns (c : Thread nD τ) a2 fullShare X.x1 ∗
    owns (c : Thread nD τ) a3 fullShare X.x2 ∗
    owns (c : Thread nD τ) a4 fullShare X.x3 ∗
    owns (c : Thread nD τ) a5 fullShare X.x4 ∗
    owns (c : Thread nD τ) a6 fullShare X.x5 ∗
    owns (c : Thread nD τ) a7 fullShare X.x6 ∗
    owns (c : Thread nD τ) a8 fullShare X.x7 ∗
    owns (c : Thread nD τ) a9 fullShare X.x8 ∗
    owns (c : Thread nD τ) a10 fullShare X.x9 ∗
    owns (c : Thread nD τ) a11 fullShare X.x10 ∗
    owns (c : Thread nD τ) a12 fullShare X.x11 ∗
    owns (c : Thread nD τ) a13 fullShare X.x12 ∗
    owns (c : Thread nD τ) a14 fullShare X.x13 ∗
    owns (c : Thread nD τ) a15 fullShare X.x14 ∗
    owns (c : Thread nD τ) a16 fullShare X.x15 ∗
    owns (c : Thread nD τ) a17 fullShare X.x16)

set_option maxHeartbeats 2000000 in
/-- At a point that is not the last, the body replaces the two rows of the scratch that the point's bags own, and
    touches nothing else. -/
theorem run_pool (c : Dev nD) (i : grid0.Coords)
    (a1 : Memref sig .tc .vmem S4096x575 .bf16) (h1 : a1.IsWhole)
    (a2 : Memref sig .tc .vmem S575x100 .f32) (h2 : a2.IsWhole)
    (a3 : Memref sig .tc .vmem S1x100 .f32) (h3 : a3.IsWhole)
    (a4 : Memref sig .tc .vmem S100x50 .f32) (h4 : a4.IsWhole)
    (a5 : Memref sig .tc .vmem S1x50 .f32) (h5 : a5.IsWhole)
    (a6 : Memref sig .tc .vmem S50x50 .f32) (h6 : a6.IsWhole)
    (a7 : Memref sig .tc .vmem S1x50 .f32) (h7 : a7.IsWhole) (a8 : Memref sig .tc .vmem S50x1 .f32) (h8 : a8.IsWhole)
    (a9 : Memref sig .tc .vmem S1x1 .f32) (h9 : a9.IsWhole)
    (a10 : Memref sig .tc .vmem S100x512 .f32) (h10 : a10.IsWhole)
    (a11 : Memref sig .tc .vmem S1x512 .f32) (h11 : a11.IsWhole)
    (a12 : Memref sig .tc .vmem S1x512 .f32) (h12 : a12.IsWhole)
    (a13 : Memref sig .tc .vmem S1x512 .f32) (h13 : a13.IsWhole)
    (a14 : Memref sig .tc .vmem S512x50 .f32) (h14 : a14.IsWhole)
    (a15 : Memref sig .tc .vmem S1x50 .f32) (h15 : a15.IsWhole)
    (a16 : Memref sig .tc .vmem S50x2 .f32) (h16 : a16.IsWhole)
    (a17 : Memref sig .tc .vmem S1x2 .f32) (h17 : a17.IsWhole)
    (a18 : Memref sig .tc .vmem S16x2 .f32) (h18 : a18.IsWhole)
    (a19 : Memref sig .tc .vmem S16x100 .f32) (h19 : a19.IsWhole)
    (hc : ¬ k0_cond1 i = 1#1) (X : Blocks F) (s : Vec F S16x100 .f32) (E : Set ℕ) (K : PUnit → sProp 𝕄) :
    iprop(ins c a1 a2 a3 a4 a5 a6 a7 a8 a9 a10 a11 a12 a13 a14 a15 a16 a17 X ∗ owns (c : Thread nD τ) a19 fullShare s
        ∗ (iprop(ins c a1 a2 a3 a4 a5 a6 a7 a8 a9 a10 a11 a12 a13 a14 a15 a16 a17 X
            ∗ owns (c : Thread nD τ) a19 fullShare (put2 (i 0).val s X.row0 X.row1)) -∗ K ⟨⟩))
      ⊢ wp frame (wpE (defs₀ (F := F)) Variants.none c none) E
          (cc0__fused_kernel i
            a1 h1 a2 h2 a3 h3 a4 h4 a5 h5 a6 h6 a7 h7 a8 h8 a9 h9 a10 h10 a11 h11 a12 h12 a13 h13 a14 h14 a15 h15
            a16 h16 a17 h17 a18 h18 a19 h19) K := by
  simp only [cc0__fused_kernel_eq_skeleton]; unfold cc0__fused_kernel_skel
  simp only [k0_part2_eq_skeleton, k0_part3_eq_skeleton, k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%f16, %hf16, H16⟩⟩,
    ⟨%fs, %hfs, HS⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h7.eq_unread hf6; obtain rfl := h8.eq_unread hf7; obtain rfl := h9.eq_unread hf8
  obtain rfl := h10.eq_unread hf9; obtain rfl := h11.eq_unread hf10; obtain rfl := h12.eq_unread hf11
  obtain rfl := h13.eq_unread hf12; obtain rfl := h14.eq_unread hf13; obtain rfl := h15.eq_unread hf14
  obtain rfl := h16.eq_unread hf15; obtain rfl := h17.eq_unread hf16
  obtain rfl := h19.eq_unread hfs
  sl_exec (disch := first | sl_exact hc)
  sl_step
  iapply Hk
  isplitl [H0 H1 H2 H3 H4 H5 H6 H7 H8 H9 H10 H11 H12 H13 H14 H15 H16]
  · isplitl [H0]; · iexists _; isplitr; (· ipureintro; exact h1.read_unread _); iexact H0
    isplitl [H1]; · iexists _; isplitr; (· ipureintro; exact h2.read_unread _); iexact H1
    isplitl [H2]; · iexists _; isplitr; (· ipureintro; exact h3.read_unread _); iexact H2
    isplitl [H3]; · iexists _; isplitr; (· ipureintro; exact h4.read_unread _); iexact H3
    isplitl [H4]; · iexists _; isplitr; (· ipureintro; exact h5.read_unread _); iexact H4
    isplitl [H5]; · iexists _; isplitr; (· ipureintro; exact h6.read_unread _); iexact H5
    isplitl [H6]; · iexists _; isplitr; (· ipureintro; exact h7.read_unread _); iexact H6
    isplitl [H7]; · iexists _; isplitr; (· ipureintro; exact h8.read_unread _); iexact H7
    isplitl [H8]; · iexists _; isplitr; (· ipureintro; exact h9.read_unread _); iexact H8
    isplitl [H9]; · iexists _; isplitr; (· ipureintro; exact h10.read_unread _); iexact H9
    isplitl [H10]; · iexists _; isplitr; (· ipureintro; exact h11.read_unread _); iexact H10
    isplitl [H11]; · iexists _; isplitr; (· ipureintro; exact h12.read_unread _); iexact H11
    isplitl [H12]; · iexists _; isplitr; (· ipureintro; exact h13.read_unread _); iexact H12
    isplitl [H13]; · iexists _; isplitr; (· ipureintro; exact h14.read_unread _); iexact H13
    isplitl [H14]; · iexists _; isplitr; (· ipureintro; exact h15.read_unread _); iexact H14
    isplitl [H15]; · iexists _; isplitr; (· ipureintro; exact h16.read_unread _); iexact H15
    iexists _; isplitr; (· ipureintro; exact h17.read_unread _); iexact H16
  iexists _; isplitr; swap; · iexact HS
  ipureintro
  sl_unfold_words
  refine (read_rows a19.view _ i _ _ _ _).trans ?_
  rw [h19.read_unread, readAt_whole h1, readAt_whole h2, readAt_whole h3, readAt_whole h4, readAt_whole h5,
    readAt_whole h6, readAt_whole h7, readAt_whole h8, readAt_whole h9]
  rfl

set_option maxHeartbeats 2000000 in
/-- At the last point the body replaces the last two rows of the scratch and stores the output network's result on
    the whole scratch. -/
theorem run_last (c : Dev nD) (i : grid0.Coords)
    (a1 : Memref sig .tc .vmem S4096x575 .bf16) (h1 : a1.IsWhole)
    (a2 : Memref sig .tc .vmem S575x100 .f32) (h2 : a2.IsWhole)
    (a3 : Memref sig .tc .vmem S1x100 .f32) (h3 : a3.IsWhole)
    (a4 : Memref sig .tc .vmem S100x50 .f32) (h4 : a4.IsWhole)
    (a5 : Memref sig .tc .vmem S1x50 .f32) (h5 : a5.IsWhole)
    (a6 : Memref sig .tc .vmem S50x50 .f32) (h6 : a6.IsWhole)
    (a7 : Memref sig .tc .vmem S1x50 .f32) (h7 : a7.IsWhole) (a8 : Memref sig .tc .vmem S50x1 .f32) (h8 : a8.IsWhole)
    (a9 : Memref sig .tc .vmem S1x1 .f32) (h9 : a9.IsWhole)
    (a10 : Memref sig .tc .vmem S100x512 .f32) (h10 : a10.IsWhole)
    (a11 : Memref sig .tc .vmem S1x512 .f32) (h11 : a11.IsWhole)
    (a12 : Memref sig .tc .vmem S1x512 .f32) (h12 : a12.IsWhole)
    (a13 : Memref sig .tc .vmem S1x512 .f32) (h13 : a13.IsWhole)
    (a14 : Memref sig .tc .vmem S512x50 .f32) (h14 : a14.IsWhole)
    (a15 : Memref sig .tc .vmem S1x50 .f32) (h15 : a15.IsWhole)
    (a16 : Memref sig .tc .vmem S50x2 .f32) (h16 : a16.IsWhole)
    (a17 : Memref sig .tc .vmem S1x2 .f32) (h17 : a17.IsWhole)
    (a18 : Memref sig .tc .vmem S16x2 .f32) (h18 : a18.IsWhole)
    (a19 : Memref sig .tc .vmem S16x100 .f32) (h19 : a19.IsWhole)
    (hc : k0_cond1 i = 1#1) (X : Blocks F) (s : Vec F S16x100 .f32) (E : Set ℕ) (K : PUnit → sProp 𝕄) :
    iprop(ins c a1 a2 a3 a4 a5 a6 a7 a8 a9 a10 a11 a12 a13 a14 a15 a16 a17 X ∗ owns (c : Thread nD τ) a19 fullShare s
        ∗ (∃ w, owns (c : Thread nD τ) a18 fullShare w)
        ∗ (iprop(ins c a1 a2 a3 a4 a5 a6 a7 a8 a9 a10 a11 a12 a13 a14 a15 a16 a17 X
            ∗ owns (c : Thread nD τ) a19 fullShare (put2 (i 0).val s X.row0 X.row1)
            ∗ owns (c : Thread nD τ) a18 fullShare (X.out (put2 (i 0).val s X.row0 X.row1))) -∗ K ⟨⟩))
      ⊢ wp frame (wpE (defs₀ (F := F)) Variants.none c none) E
          (cc0__fused_kernel i
            a1 h1 a2 h2 a3 h3 a4 h4 a5 h5 a6 h6 a7 h7 a8 h8 a9 h9 a10 h10 a11 h11 a12 h12 a13 h13 a14 h14 a15 h15
            a16 h16 a17 h17 a18 h18 a19 h19) K := by
  simp only [cc0__fused_kernel_eq_skeleton]; unfold cc0__fused_kernel_skel
  simp only [k0_part2_eq_skeleton, k0_part3_eq_skeleton, k0_part1_eq_skeleton]
  unfold ins owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%f11, %hf11, H11⟩, ⟨%f12, %hf12, H12⟩,
    ⟨%f13, %hf13, H13⟩, ⟨%f14, %hf14, H14⟩, ⟨%f15, %hf15, H15⟩, ⟨%f16, %hf16, H16⟩⟩,
    ⟨%fs, %hfs, HS⟩, ⟨%w, %fw, %hfw, HW⟩, Hk⟩
  obtain rfl := h1.eq_unread hf0; obtain rfl := h2.eq_unread hf1; obtain rfl := h3.eq_unread hf2
  obtain rfl := h4.eq_unread hf3; obtain rfl := h5.eq_unread hf4; obtain rfl := h6.eq_unread hf5
  obtain rfl := h7.eq_unread hf6; obtain rfl := h8.eq_unread hf7; obtain rfl := h9.eq_unread hf8
  obtain rfl := h10.eq_unread hf9; obtain rfl := h11.eq_unread hf10; obtain rfl := h12.eq_unread hf11
  obtain rfl := h13.eq_unread hf12; obtain rfl := h14.eq_unread hf13; obtain rfl := h15.eq_unread hf14
  obtain rfl := h16.eq_unread hf15; obtain rfl := h17.eq_unread hf16
  obtain rfl := h19.eq_unread hfs
  sl_exec (disch := first | sl_exact hc)
  sl_step
  iapply Hk
  isplitl [H0 H1 H2 H3 H4 H5 H6 H7 H8 H9 H10 H11 H12 H13 H14 H15 H16]
  · isplitl [H0]; · iexists _; isplitr; (· ipureintro; exact h1.read_unread _); iexact H0
    isplitl [H1]; · iexists _; isplitr; (· ipureintro; exact h2.read_unread _); iexact H1
    isplitl [H2]; · iexists _; isplitr; (· ipureintro; exact h3.read_unread _); iexact H2
    isplitl [H3]; · iexists _; isplitr; (· ipureintro; exact h4.read_unread _); iexact H3
    isplitl [H4]; · iexists _; isplitr; (· ipureintro; exact h5.read_unread _); iexact H4
    isplitl [H5]; · iexists _; isplitr; (· ipureintro; exact h6.read_unread _); iexact H5
    isplitl [H6]; · iexists _; isplitr; (· ipureintro; exact h7.read_unread _); iexact H6
    isplitl [H7]; · iexists _; isplitr; (· ipureintro; exact h8.read_unread _); iexact H7
    isplitl [H8]; · iexists _; isplitr; (· ipureintro; exact h9.read_unread _); iexact H8
    isplitl [H9]; · iexists _; isplitr; (· ipureintro; exact h10.read_unread _); iexact H9
    isplitl [H10]; · iexists _; isplitr; (· ipureintro; exact h11.read_unread _); iexact H10
    isplitl [H11]; · iexists _; isplitr; (· ipureintro; exact h12.read_unread _); iexact H11
    isplitl [H12]; · iexists _; isplitr; (· ipureintro; exact h13.read_unread _); iexact H12
    isplitl [H13]; · iexists _; isplitr; (· ipureintro; exact h14.read_unread _); iexact H13
    isplitl [H14]; · iexists _; isplitr; (· ipureintro; exact h15.read_unread _); iexact H14
    isplitl [H15]; · iexists _; isplitr; (· ipureintro; exact h16.read_unread _); iexact H15
    iexists _; isplitr; (· ipureintro; exact h17.read_unread _); iexact H16
  isplitl [HS]
  · iexists _; isplitr; swap; · iexact HS
    ipureintro
    sl_unfold_words
    refine (read_rows a19.view _ i _ _ _ _).trans ?_
    rw [h19.read_unread, readAt_whole h1, readAt_whole h2, readAt_whole h3, readAt_whole h4, readAt_whole h5,
      readAt_whole h6, readAt_whole h7, readAt_whole h8, readAt_whole h9]
    rfl
  iexists _; isplitr; swap; · iexact HW
  ipureintro
  sl_unfold_words
  refine (View.read_writes_full a18.view _ _ _ _).trans ?_
  rw [readAt_whole h1, readAt_whole h2, readAt_whole h3, readAt_whole h4, readAt_whole h5, readAt_whole h6,
    readAt_whole h7, readAt_whole h8, readAt_whole h9, readAt_whole h10, readAt_whole h11, readAt_whole h12,
    readAt_whole h13, readAt_whole h14, readAt_whole h15, readAt_whole h16, readAt_whole h17]
  refine congrArg X.out ((View.readAt_full a19.view _ _).trans ((read_rows a19.view _ i _ _ _ _).trans ?_))
  rw [h19.read_unread]
  rfl

end Cert.KernelIdeal.Hand

end
-- ==== Proof.Run.lean ====
/- The launch: the proof data of the one pipelined region, with the scratch array's rows followed from point to point,
   and what the output array holds when the program ends. -/
module

public import proofs.«01_k».proof.Proof.Body

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seventeen blocks the body is handed at point `t`. -/
def blocks (c : Dev nD) (t : Fin cfg0.N) : Blocks F where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

/-- The point whose block holds bag `b`. -/
def pointOf (b : Fin 16) : Fin cfg0.N := ⟨b.val / 2, lt_of_lt_of_eq (by omega) N_0.symm⟩

/-- The pooled bags of the launch: bag `2 t` is the first row of point `t`, bag `2 t + 1` the second. -/
def pool (c : Dev nD) : Vec F S16x100 .f32 := fun x =>
  if (x 0).val % 2 = 0 then (blocks m c (pointOf (x 0))).row0 (ix2 (0 : Fin 1) (x 1))
  else (blocks m c (pointOf (x 0))).row1 (ix2 (0 : Fin 1) (x 1))

/-- The scratch contents `s` hold the bags of the points before `n`. -/
def Filled (c : Dev nD) (n : ℕ) (s : Vec F S16x100 .f32) : Prop := ∀ x, (x 0).val < 2 * n → s x = pool m c x

/-- One more point fills two more rows. -/
theorem filled_succ (c : Dev nD) (t : Fin cfg0.N) (s : Vec F S16x100 .f32) (h : Filled m c t.val s) :
    Filled m c (t.val + 1) (put2 t.val s (blocks m c t).row0 (blocks m c t).row1) := by
  intro x hx
  have hb : ∀ k, (x 0).val = 2 * t.val + k → k < 2 → pointOf (x 0) = t := fun k e hk =>
    Fin.ext (by show (x 0).val / 2 = t.val; omega)
  unfold put2
  split
  · next e => rw [pool, if_neg (by omega), hb 1 e (by omega)]
  · next e =>
    split
    · next e' => rw [pool, if_pos (by omega), hb 0 e' (by omega)]
    · next e' => exact h x (by omega)

/-- After the last point the scratch is the pooled bags. -/
theorem filled_all (c : Dev nD) (s : Vec F S16x100 .f32) (h : Filled m c 8 s) : s = pool m c :=
  funext fun x => h x (by have : (x 0).val < 16 := (x 0).isLt; omega)

/-- What the last point stores: the output network's result on the pooled bags. -/
def result (c : Dev nD) (t : Fin cfg0.N) : FVec F S16x2 .f32 := (blocks m c t).out (pool m c)

/-- The whole scratch array. -/
abbrev scr : Memref sig .tc .vmem S16x100 .f32 := Memref.whole cc0_scratch0

/-- The proof data: the inputs stay in place, the output block is `result`, and before point `t` the scratch holds the
    bags of the earlier points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => result m c t
    | ⟨_ + 18, h⟩ => absurd h (Nat.not_lt.2 (Nat.le_add_left _ _))
  Φ t := iprop((∃ s, ⌜Filled m c t.val s⌝ ∗ owns (c : Thread nD τ) scr fullShare s) ∗ (∃ r, prngReg c r))
  q _ := fullShare
  owed _ := 0

/-- The arrays of the proof data are those of the region's entry. -/
theorem A_eq (c : Dev nD) (w : Fin cfg0.W) : (dats m 0 c).A w = V m c (Pipeline.arrRef spec0 w) := by
  dsimp only [dats]

/-- The body's branch is taken exactly at the last point. -/
theorem cond_iff (t : Fin cfg0.N) : k0_cond1 (grid0.coords t) = 1#1 ↔ t.val = 7 := by
  have ht : t.val < 8 := Nat.lt_of_lt_of_eq t.isLt N_0
  have e0 : (grid0.coords t 0).val = t.val / 1 % 8 := Pipeline.Grid.coords_val t 0 (by decide) rfl
  simp only [k0_cond1, e0]
  word_cmp

/-- The grid's one coordinate is the point's number. -/
theorem coord_eq (t : Fin cfg0.N) : (grid0.coords t 0).val = t.val := by
  have ht : t.val < 8 := Nat.lt_of_lt_of_eq t.isLt N_0
  have e0 : (grid0.coords t 0).val = t.val / 1 % 8 := Pipeline.Grid.coords_val t 0 (by decide) rfl
  omega

/-- The scratch's class invariant: it is held at some contents, and so is the generator. -/
theorem inv_eq (c : Dev nD) : Pipeline.ΦA (Val := Elt F) spec0 c
    = (iprop((∃ d, owns (c : Thread nD τ) scr fullShare d) ∗ (∃ r, prngReg c r)) : sProp 𝕄) := by
  unfold Pipeline.ΦA
  rw [scopedRest0_eq]
  simp only [scr, owns_whole]
  rfl

/-- What the body may rely on for window `w` at point `t`. -/
def pre (c : Dev nD) (t : Fin cfg0.N) (w : Fin cfg0.W) : sProp 𝕄 :=
  iprop(∃ d, owns (c : Thread nD τ) ((cfg0.win w).stage (cfg0.slots t w)) fullShare ((dats m 0 c).before w t d))

/-- A window whose buffer is known before the body. -/
theorem pre_in (c : Dev nD) (t : Fin cfg0.N) (w : Fin cfg0.W) (X) (h : ∀ d, (dats m 0 c).before w t d = X) :
    pre m c t w ⊢ owns (c : Thread nD τ) ((cfg0.win w).stage (cfg0.slots t w)) fullShare X := by
  unfold pre
  simp only [h]
  iintro ⟨%d, H⟩
  iexact H

/-- A window whose buffer holds anything before the body. -/
theorem pre_any (c : Dev nD) (t : Fin cfg0.N) (w : Fin cfg0.W) :
    pre m c t w ⊢ iprop(∃ X, owns (c : Thread nD τ) ((cfg0.win w).stage (cfg0.slots t w)) fullShare X) := by
  unfold pre
  iintro ⟨%d, H⟩
  iexists _
  iexact H

/-- The output window is left as it was at every point but the last. -/
theorem leaves_idle_out (c : Dev nD) (t : Fin cfg0.N) (h : t.val ≠ 7) : (dats m 0 c).leavesExact 17 t = pre m c t 17 := by
  have hi : cfg0.idle 17 (cfg0.grid.coords t) = true := by
    show (!(k0_cond1 (grid0.coords t) == 1#1)) = true
    rw [beq_eq_false_iff_ne.mpr fun e => h ((cond_iff t).mp e)]
    rfl
  have hf : (cfg0.win 17).flush t = false := by
    rw [Bool.eq_false_iff]
    intro e
    have := (flush0_17 t).mp e
    have ht : t.val < 8 := Nat.lt_of_lt_of_eq t.isLt N_0
    omega
  exact Dat.leavesExact_idle _ 17 t hi hf

/-- The output window is not idle at the last point. -/
theorem live_out (t : Fin cfg0.N) (h : t.val = 7) : cfg0.idle 17 (cfg0.grid.coords t) = false := by
  show (!(k0_cond1 (grid0.coords t) == 1#1)) = false
  rw [beq_iff_eq.mpr ((cond_iff t).mpr h)]
  rfl

set_option maxHeartbeats 1000000 in
/-- The input windows' blocks, as the body receives them. -/
theorem take_ins (c : Dev nD) (t : Fin cfg0.N) :
    iprop(pre m c t 0 ∗ pre m c t 1 ∗ pre m c t 2 ∗ pre m c t 3 ∗ pre m c t 4 ∗ pre m c t 5
      ∗ pre m c t 6 ∗ pre m c t 7 ∗ pre m c t 8 ∗ pre m c t 9 ∗ pre m c t 10 ∗ pre m c t 11
      ∗ pre m c t 12 ∗ pre m c t 13 ∗ pre m c t 14 ∗ pre m c t 15 ∗ pre m c t 16)
      ⊢ ins c (st0_0 t) (st0_1 t) (st0_2 t) (st0_3 t) (st0_4 t) (st0_5 t) (st0_6 t) (st0_7 t) (st0_8 t) (st0_9 t)
          (st0_10 t) (st0_11 t) (st0_12 t) (st0_13 t) (st0_14 t) (st0_15 t) (st0_16 t)
          (blocks m c t) := by
  unfold ins
  iintro ⟨H0, H1, H2, H3, H4, H5, H6, H7, H8, H9, H10, H11, H12, H13, H14, H15, H16⟩
  isplitl [H0]; · iapply (pre_in m c t 0 _ (before0_0_of m (dats m 0 c) (A_eq m c 0) (fun _ => rfl) t)); iexact H0
  isplitl [H1]; · iapply (pre_in m c t 1 _ (before0_1_of m (dats m 0 c) (A_eq m c 1) (fun _ => rfl) t)); iexact H1
  isplitl [H2]; · iapply (pre_in m c t 2 _ (before0_2_of m (dats m 0 c) (A_eq m c 2) (fun _ => rfl) t)); iexact H2
  isplitl [H3]; · iapply (pre_in m c t 3 _ (before0_3_of m (dats m 0 c) (A_eq m c 3) (fun _ => rfl) t)); iexact H3
  isplitl [H4]; · iapply (pre_in m c t 4 _ (before0_4_of m (dats m 0 c) (A_eq m c 4) (fun _ => rfl) t)); iexact H4
  isplitl [H5]; · iapply (pre_in m c t 5 _ (before0_5_of m (dats m 0 c) (A_eq m c 5) (fun _ => rfl) t)); iexact H5
  isplitl [H6]; · iapply (pre_in m c t 6 _ (before0_6_of m (dats m 0 c) (A_eq m c 6) (fun _ => rfl) t)); iexact H6
  isplitl [H7]; · iapply (pre_in m c t 7 _ (before0_7_of m (dats m 0 c) (A_eq m c 7) (fun _ => rfl) t)); iexact H7
  isplitl [H8]; · iapply (pre_in m c t 8 _ (before0_8_of m (dats m 0 c) (A_eq m c 8) (fun _ => rfl) t)); iexact H8
  isplitl [H9]; · iapply (pre_in m c t 9 _ (before0_9_of m (dats m 0 c) (A_eq m c 9) (fun _ => rfl) t)); iexact H9
  isplitl [H10]; · iapply (pre_in m c t 10 _ (before0_10_of m (dats m 0 c) (A_eq m c 10) (fun _ => rfl) t)); iexact H10
  isplitl [H11]; · iapply (pre_in m c t 11 _ (before0_11_of m (dats m 0 c) (A_eq m c 11) (fun _ => rfl) t)); iexact H11
  isplitl [H12]; · iapply (pre_in m c t 12 _ (before0_12_of m (dats m 0 c) (A_eq m c 12) (fun _ => rfl) t)); iexact H12
  isplitl [H13]; · iapply (pre_in m c t 13 _ (before0_13_of m (dats m 0 c) (A_eq m c 13) (fun _ => rfl) t)); iexact H13
  isplitl [H14]; · iapply (pre_in m c t 14 _ (before0_14_of m (dats m 0 c) (A_eq m c 14) (fun _ => rfl) t)); iexact H14
  isplitl [H15]; · iapply (pre_in m c t 15 _ (before0_15_of m (dats m 0 c) (A_eq m c 15) (fun _ => rfl) t)); iexact H15
  iapply (pre_in m c t 16 _ (before0_16_of m (dats m 0 c) (A_eq m c 16) (fun _ => rfl) t)); iexact H16

/-- A window that is not idle at `t` is left at what the proof data says. -/
theorem leaves_live (c : Dev nD) (t : Fin cfg0.N) (w : Fin cfg0.W) (hi : cfg0.idle w (cfg0.grid.coords t) = false) :
    (dats m 0 c).leavesExact w t
      = owns (c : Thread nD τ) ((cfg0.win w).stage (cfg0.slots t w)) fullShare ((dats m 0 c).after w t) := by
  unfold Dat.leavesExact
  rw [hi]

set_option maxHeartbeats 1000000 in
/-- The input windows' blocks, as the body returns them, beside what it leaves of the output. -/
theorem give_ins (c : Dev nD) (t : Fin cfg0.N) (R : sProp 𝕄) :
    iprop(ins c (st0_0 t) (st0_1 t) (st0_2 t) (st0_3 t) (st0_4 t) (st0_5 t) (st0_6 t) (st0_7 t) (st0_8 t) (st0_9 t)
        (st0_10 t) (st0_11 t) (st0_12 t) (st0_13 t) (st0_14 t) (st0_15 t) (st0_16 t)
        (blocks m c t) ∗ R)
      ⊢ iprop((dats m 0 c).leavesExact 0 t ∗ (dats m 0 c).leavesExact 1 t ∗ (dats m 0 c).leavesExact 2 t
        ∗ (dats m 0 c).leavesExact 3 t ∗ (dats m 0 c).leavesExact 4 t ∗ (dats m 0 c).leavesExact 5 t
        ∗ (dats m 0 c).leavesExact 6 t ∗ (dats m 0 c).leavesExact 7 t ∗ (dats m 0 c).leavesExact 8 t
        ∗ (dats m 0 c).leavesExact 9 t ∗ (dats m 0 c).leavesExact 10 t ∗ (dats m 0 c).leavesExact 11 t
        ∗ (dats m 0 c).leavesExact 12 t ∗ (dats m 0 c).leavesExact 13 t ∗ (dats m 0 c).leavesExact 14 t
        ∗ (dats m 0 c).leavesExact 15 t ∗ (dats m 0 c).leavesExact 16 t ∗ R) := by
  rw [leaves_live m c t 0 rfl, leaves_live m c t 1 rfl, leaves_live m c t 2 rfl, leaves_live m c t 3 rfl,
    leaves_live m c t 4 rfl, leaves_live m c t 5 rfl, leaves_live m c t 6 rfl, leaves_live m c t 7 rfl,
    leaves_live m c t 8 rfl, leaves_live m c t 9 rfl, leaves_live m c t 10 rfl, leaves_live m c t 11 rfl,
    leaves_live m c t 12 rfl, leaves_live m c t 13 rfl, leaves_live m c t 14 rfl, leaves_live m c t 15 rfl,
    leaves_live m c t 16 rfl]
  unfold ins
  iintro ⟨⟨H0, H1, H2, H3, H4, H5, H6, H7, H8, H9, H10, H11, H12, H13, H14, H15, H16⟩, HR⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HR

set_option maxHeartbeats 1000000 in
/-- The body's contract at one point. -/
theorem sound_body (c : Dev nD) (t : Fin cfg0.N) :
    iprop((dats m 0 c).Φ t.castSucc ∗ (dats m 0 c).owesAt () t.castSucc
        ∗ pre m c t 0 ∗ pre m c t 1 ∗ pre m c t 2 ∗ pre m c t 3 ∗ pre m c t 4 ∗ pre m c t 5
        ∗ pre m c t 6 ∗ pre m c t 7 ∗ pre m c t 8 ∗ pre m c t 9 ∗ pre m c t 10 ∗ pre m c t 11
        ∗ pre m c t 12 ∗ pre m c t 13 ∗ pre m c t 14 ∗ pre m c t 15 ∗ pre m c t 16 ∗ pre m c t 17)
      ⊢ wp frame (wpE (defs₀ (F := F)) Variants.none c none) Set.univ (bodyAt0 t) fun _ =>
        iprop((dats m 0 c).Φ t.succ ∗ (dats m 0 c).owesAt () t.succ
          ∗ (dats m 0 c).leavesExact 0 t ∗ (dats m 0 c).leavesExact 1 t ∗ (dats m 0 c).leavesExact 2 t
          ∗ (dats m 0 c).leavesExact 3 t ∗ (dats m 0 c).leavesExact 4 t ∗ (dats m 0 c).leavesExact 5 t
          ∗ (dats m 0 c).leavesExact 6 t ∗ (dats m 0 c).leavesExact 7 t ∗ (dats m 0 c).leavesExact 8 t
          ∗ (dats m 0 c).leavesExact 9 t ∗ (dats m 0 c).leavesExact 10 t ∗ (dats m 0 c).leavesExact 11 t
          ∗ (dats m 0 c).leavesExact 12 t ∗ (dats m 0 c).leavesExact 13 t ∗ (dats m 0 c).leavesExact 14 t
          ∗ (dats m 0 c).leavesExact 15 t ∗ (dats m 0 c).leavesExact 16 t ∗ (dats m 0 c).leavesExact 17 t) := by
  have hN : t.val < 8 := Nat.lt_of_lt_of_eq t.isLt N_0
  show iprop(((∃ s, ⌜Filled m c t.val s⌝ ∗ owns (c : Thread nD τ) scr fullShare s) ∗ (∃ r, prngReg c r))
      ∗ (dats m 0 c).owesAt () t.castSucc ∗ _) ⊢ wp _ _ _ _ fun _ =>
    iprop(((∃ s, ⌜Filled m c (t.val + 1) s⌝ ∗ owns (c : Thread nD τ) scr fullShare s) ∗ (∃ r, prngReg c r))
      ∗ (dats m 0 c).owesAt () t.castSucc ∗ _)
  iintro ⟨⟨⟨%s, %hs, HS⟩, Hg⟩, Ho, H0, H1, H2, H3, H4, H5, H6, H7, H8, H9, H10, H11, H12, H13, H14, H15, H16, H17⟩
  have hf := filled_succ m c t s hs
  have hc := coord_eq t
  by_cases h : t.val = 7
  · iapply (run_last c (grid0.coords t) _ _ _ _ _ _ _ _ _ _ _ _ _ _ _ _ _ _ _ _ _ _ _ _ _ _ _ _ _ _ _ _ _ _ _ _ _ _ ((cond_iff t).mpr h)
      (blocks m c t) s Set.univ _)
    isplitl [H0 H1 H2 H3 H4 H5 H6 H7 H8 H9 H10 H11 H12 H13 H14 H15 H16]
    · iapply (take_ins m c t)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [HS]; · iexact HS
    isplitl [H17]
    · iapply (pre_any m c t 17)
      iexact H17
    iintro ⟨HI, HS, HW⟩
    rw [hc]
    isplitl [HS Hg]
    · isplitl [HS]
      · iexists _
        isplitr; swap; · iexact HS
        ipureintro
        exact hf
      iexact Hg
    isplitl [Ho]; · iexact Ho
    iapply (give_ins m c t)
    isplitl [HI]; · iexact HI
    rw [leaves_live m c t 17 (live_out t h)]
    have hp : put2 t.val s (blocks m c t).row0 (blocks m c t).row1 = pool m c :=
      filled_all m c _ (by rw [h] at hf ⊢; exact hf)
    rw [hp]
    iexact HW
  · iapply (run_pool c (grid0.coords t) _ _ _ _ _ _ _ _ _ _ _ _ _ _ _ _ _ _ _ _ _ _ _ _ _ _ _ _ _ _ _ _ _ _ _ _ _ _ (fun e => h ((cond_iff t).mp e))
      (blocks m c t) s Set.univ _)
    isplitl [H0 H1 H2 H3 H4 H5 H6 H7 H8 H9 H10 H11 H12 H13 H14 H15 H16]
    · iapply (take_ins m c t)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    isplitl [HS]; · iexact HS
    iintro ⟨HI, HS⟩
    rw [hc]
    isplitl [HS Hg]
    · isplitl [HS]
      · iexists _
        isplitr; swap; · iexact HS
        ipureintro
        exact hf
      iexact Hg
    isplitl [Ho]; · iexact Ho
    iapply (give_ins m c t)
    isplitl [HI]; · iexact HI
    rw [leaves_idle_out m c t h]
    iexact H17

/-- The body table's row at point `t`'s slots is the body at that point. -/
theorem row_eq (t : Fin cfg0.N) : defs₀ (F := F) .tc cfg0.body (cfg0.bodyArgs t (cfg0.slots t)) = bodyAt0 t := by
  unfold defs₀
  rw [Defs.onTc_tc]

/-- The body's obligation at every point. -/
theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

-- the implicit arguments are found by unifying the conclusion, which unfolds plain definitions in a metavariable's type
set_option backward.isDefEq.respectTransparency.types false in
/-- The launch: every run of the program ends with each window's array as the proof data says, and every counter zero. -/
theorem run_all : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by
      rw [inv_eq]
      show _ ⊢ iprop((∃ s, ⌜Filled m c 0 s⌝ ∗ owns (c : Thread nD τ) scr fullShare s) ∗ (∃ r, prngReg c r))
      iintro ⟨⟨%d, H⟩, Hg⟩
      isplitl [H]
      · iexists d
        isplitr
        · ipureintro
          exact fun x hx => absurd hx (by omega)
        iexact H
      iexact Hg)
    (hout := fun c => by
      rw [inv_eq]
      show iprop((∃ s, ⌜Filled m c _ s⌝ ∗ owns (c : Thread nD τ) scr fullShare s) ∗ (∃ r, prngReg c r)) ⊢ _
      iintro ⟨⟨%d, %_, H⟩, Hg⟩
      isplitl [H]
      · iexists d
        iexact H
      iexact Hg)

end Cert.KernelIdeal.Hand

end
-- ==== Proof.Same.lean ====
/- The machine's kernel and the idealized kernel are one program: the same bodies, the same table, the same main, at any
   arithmetic. What is proved of the second at machine floats is therefore proved of the first. -/
module

public import proofs.«01_k».proof.Defs
public import proofs.«01_k».proof.Proof.Gen.Kernel
public import proofs.«01_k».proof.Proof.Gen.KernelIdeal

@[expose] public section

noncomputable section

namespace Cert.Hand

open Idealize.ShloMosaic

variable {F : FTy → Type} [FloatOps F]

set_option maxHeartbeats 4000000 in
/-- The two body tables hold the same body. -/
theorem bodies_eq : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

set_option maxHeartbeats 4000000 in
/-- The two programs' tables are one. -/
theorem tables_eq : Cert.Kernel.defs (F := F) = Cert.KernelIdeal.defs (F := F) :=
  congrArg (Pipeline.defs Cert.Kernel.pcfgs) bodies_eq

set_option maxHeartbeats 4000000 in
/-- The two mains are one. -/
theorem mains_eq : Cert.Kernel.main (F := F) = Cert.KernelIdeal.main (F := F) := rfl

end Cert.Hand

end
-- ==== Proof.Frames.lean ====
/- The frames of the idealized kernel and of the reference: their runs end, the arguments are as they were, and every
   semaphore counter is zero. -/
module

public import proofs.«01_k».proof.Defs
public import proofs.«01_k».proof.Proof.Run
public import proofs.«01_k».proof.Proof.Same
public import proofs.«01_k».proof.Proof.Gen.KernelIdeal
public import proofs.«01_k».proof.Proof.Gen.Kernel
public import proofs.«01_k».proof.Proof.Gen.ReferenceIdeal
public import proofs.«01_k».proof.Proof.Gen.ReferenceIdeal.Run
public import Idealize.ShloMosaic.Lib.Quiescent
public import Idealize.ShloMosaic.Lib.Claim

@[expose] public section

noncomputable section

namespace Cert.Hand

open Idealize.ShloMosaic Idealize.ShloMosaic.TcCoe Idealize.SL.Sem

/-- The idealized kernel's frame, from its launch. -/
theorem frame_kernel : Cert.quiescent_KernelIdeal (hKernelIdeal := Cert.KernelIdeal.Gen.facts) := fun m ρ _ => by
  have h := θ_run_and
    (Cert.KernelIdeal.Gen.frame_of m ρ (Cert.KernelIdeal.Hand.dats m) (Cert.KernelIdeal.Hand.A_eq m)
      ((θ_run Cert.KernelIdeal.defs _ _).mono (fun _ h => h.1) (Cert.KernelIdeal.Hand.run_all m ρ)))
    ((θ_run Cert.KernelIdeal.defs _ _).mono (fun _ h => h.2) (Cert.KernelIdeal.Hand.run_all m ρ))
  exact h

/-- The machine's kernel is the same program, read at machine floats: the launch is proved at any arithmetic. -/
theorem frame_bits : Cert.quiescent_Kernel (hKernel := Cert.Kernel.Gen.facts) := fun m ρ _ => by
  have h := θ_run_and
    (Cert.KernelIdeal.Gen.frame_of m ρ (Cert.KernelIdeal.Hand.dats (F := Bits) m) (Cert.KernelIdeal.Hand.A_eq m)
      ((θ_run Cert.KernelIdeal.defs _ _).mono (fun _ h => h.1) (Cert.KernelIdeal.Hand.run_all m ρ)))
    ((θ_run Cert.KernelIdeal.defs _ _).mono (fun _ h => h.2) (Cert.KernelIdeal.Hand.run_all m ρ))
  rw [tables_eq, mains_eq]
  exact h

/-- The reference's frame: its program has no counters at all. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems rfl r.2⟩) (Cert.ReferenceIdeal.Value.run m ρ)

end Cert.Hand

end
-- ==== Proof.Real.lean ====
/- Extended reals that are real numbers: sums, products, exponentials and maxima of them are again real, and dividing a
   weighted sum by the sum of the weights is summing the divided weights. -/
module

public import Idealize.ShloMosaic.PureOps
public import Idealize.ShloMosaic.PureOps.Ideal

@[expose] public section

noncomputable section

namespace Cert.Hand

open Idealize.ShloMosaic

/-- `x` is a real number: neither infinity. -/
def IsReal (x : EReal) : Prop := ∃ r : ℝ, x = (r : EReal)

/-- A number whose absolute value is below the upper infinity is real. -/
theorem isReal_of_abs_lt {x : EReal} (h : max x (-x) < ⊤) : IsReal x := by
  induction x with
  | bot => simp at h
  | top => simp at h
  | coe r => exact ⟨r, rfl⟩

/-- The sum of two real numbers is real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The difference of two real numbers is real. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two real numbers is real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The exponential of a real number is real. -/
theorem IsReal.exp {x : EReal} (hx : IsReal x) : IsReal (Ideal.exp x) := by
  obtain ⟨a, rfl⟩ := hx
  exact ⟨Real.exp a, Ideal.exp_coe a⟩

/-- A sum of reals, taken in the extended reals, is the real sum. -/
theorem coe_sum {n : ℕ} (f : Fin n → ℝ) : ((∑ i, f i : ℝ) : EReal) = ∑ i, (f i : EReal) :=
  map_sum (⟨⟨Real.toEReal, EReal.coe_zero⟩, EReal.coe_add⟩ : ℝ →+ EReal) f Finset.univ

/-- A finite sum of real numbers is real. -/
theorem isReal_sum {n : ℕ} {f : Fin n → EReal} (h : ∀ i, IsReal (f i)) : IsReal (∑ i, f i) := by
  choose g hg using h
  exact ⟨∑ i, g i, by rw [coe_sum]; exact Finset.sum_congr rfl fun i _ => hg i⟩

/-- The greatest of finitely many (at least one) real numbers is real. -/
theorem isReal_max {n : ℕ} {f : Fin (n + 1) → EReal} (h : ∀ i, IsReal (f i)) :
    IsReal (Finset.univ.fold max ⊥ f) := by
  have e : Finset.univ.fold max ⊥ f = Finset.univ.sup f := rfl
  obtain ⟨i, -, hi⟩ := Finset.exists_mem_eq_sup Finset.univ Finset.univ_nonempty f
  rw [e, hi]
  exact h i

/-- Dividing by a non-zero real number gives a real number. -/
theorem div_real {r s : ℝ} (hs : s ≠ 0) : Ideal.div (r : EReal) (s : EReal) = ((r / s : ℝ) : EReal) := by
  rw [Ideal.div_coe hs, ← EReal.coe_mul, mul_one_div]

/-- The softmax's two orders agree on real numbers: the sum weighted by exponentials and then divided by their sum, and the
    sum weighted by the divided exponentials. -/
theorem pool_order {n : ℕ} {x d : Fin (n + 1) → EReal} (hx : ∀ i, IsReal (x i)) (hd : ∀ i, IsReal (d i)) :
    Ideal.div (∑ i, x i * Ideal.exp (d i)) (∑ i, Ideal.exp (d i))
      = ∑ i, x i * Ideal.div (Ideal.exp (d i)) (∑ k, Ideal.exp (d k)) := by
  choose a ha using hx
  choose b hb using hd
  have hs : (∑ i, Ideal.exp (d i)) = ((∑ i, Real.exp (b i) : ℝ) : EReal) := by
    rw [coe_sum]
    exact Finset.sum_congr rfl fun i _ => by rw [hb i, Ideal.exp_coe]
  have hpos : (0 : ℝ) < ∑ i, Real.exp (b i) :=
    Finset.sum_pos (fun i _ => Real.exp_pos _) Finset.univ_nonempty
  have hn : (∑ i, x i * Ideal.exp (d i)) = ((∑ i, a i * Real.exp (b i) : ℝ) : EReal) := by
    rw [coe_sum]
    exact Finset.sum_congr rfl fun i _ => by rw [ha i, hb i, Ideal.exp_coe, ← EReal.coe_mul]
  rw [hs, hn, div_real hpos.ne', Finset.sum_div, coe_sum]
  refine Finset.sum_congr rfl fun i _ => ?_
  rw [ha i, hb i, Ideal.exp_coe, div_real hpos.ne', ← EReal.coe_mul, mul_div_assoc]

/-- A square is not negative, at the infinities too. -/
theorem sq_nonneg (d : EReal) : 0 ≤ d * d := by
  induction d with
  | bot => simp
  | top => simp
  | coe r => rw [← EReal.coe_mul]; exact_mod_cast mul_self_nonneg r

/-- Multiplying by the reciprocal square root of a positive number is dividing by its square root. -/
theorem mul_rsqrt {w : EReal} (hw : 0 < w) (y : EReal) : y * Ideal.rsqrt w = Ideal.div y (Ideal.sqrt w) := by
  induction w with
  | bot => simp at hw
  | top => rw [Ideal.rsqrt_top, Ideal.sqrt_top, Ideal.div, if_neg EReal.top_ne_zero, EReal.inv_top]
  | coe r =>
    have hr : 0 < r := by exact_mod_cast hw
    have hq : Real.sqrt r ≠ 0 := (Real.sqrt_pos.2 hr).ne'
    rw [Ideal.rsqrt_coe, Ideal.sqrt_coe, if_neg hr.not_gt, if_neg hr.ne', if_neg hr.not_gt, Ideal.div_coe hq, one_div]

/-- A quotient of a number that is not negative by a positive real is not negative. -/
theorem div_nonneg {x : EReal} (hx : 0 ≤ x) {s : ℝ} (hs : 0 < s) : 0 ≤ Ideal.div x (s : EReal) := by
  rw [Ideal.div_coe hs.ne']
  exact mul_nonneg hx (by exact_mod_cast (one_div_pos.2 hs).le)

end Cert.Hand

end
-- ==== Proof.Consts.lean ====
/- The float constants of the two programs as numbers. -/
module

public import proofs.«01_k».proof.Proof.Real

@[expose] public section

noncomputable section

namespace Cert.Hand

open Idealize.ShloMosaic

/-- The pattern of one is one. -/
theorem one_word : Ideal.ofBits .f32 0x3F800000#32 = 1 := by
  have h : Ideal.ofBits .f32 0x3F800000#32 = ((1 : ℝ) : EReal) := by
    simp [Ideal.ofBits, Ideal.ieee, -EReal.coe_mul, -EReal.coe_one]
    norm_num
  rw [h, EReal.coe_one]

/-- The pattern of sixteen is sixteen. -/
theorem sixteen_word : Ideal.ofBits .f32 0x41800000#32 = ((16 : ℝ) : EReal) := by
  simp [Ideal.ofBits, Ideal.ieee, -EReal.coe_mul]
  norm_num

/-- The pattern of the lower infinity is the lower infinity. -/
theorem bot_word : Ideal.ofBits .f32 0xFF800000#32 = ⊥ := by
  simp [Ideal.ofBits, Ideal.ieee]

/-- The pattern of the upper infinity is the upper infinity. -/
theorem top_word : Ideal.ofBits .f32 0x7F800000#32 = ⊤ := by
  simp [Ideal.ofBits, Ideal.ieee]

/-- The batch normalisation's small constant is positive. -/
theorem eps_pos : 0 < Ideal.ofBits .f32 0x3727C5AC#32 := by
  simp [Ideal.ofBits, Ideal.ieee, -EReal.coe_mul]

/-- The activation's scale is a real number. -/
theorem scale_real : IsReal (Ideal.ofBits .f32 0x3F867D5F#32) := by
  simp [Ideal.ofBits, Ideal.ieee, -EReal.coe_mul]
  exact ⟨_, rfl⟩

/-- The activation's negative slope is a real number. -/
theorem slope_real : IsReal (Ideal.ofBits .f32 0x3FD62D7D#32) := by
  simp [Ideal.ofBits, Ideal.ieee, -EReal.coe_mul]
  exact ⟨_, rfl⟩

end Cert.Hand

end
-- ==== Proof.Even.lean ====
/- Families of extended reals that an infinite bias cannot unbalance: all real, or all the same number. And the few
   numbers that a sum over zero weights can be. -/
module

public import proofs.«01_k».proof.Proof.Real

@[expose] public section

noncomputable section

namespace Cert.Hand

open Idealize.ShloMosaic

/-- A number that is not real is one of the infinities. -/
theorem infinite {x : EReal} (h : ¬ IsReal x) : x = ⊤ ∨ x = ⊥ := by
  induction x with
  | bot => exact .inr rfl
  | top => exact .inl rfl
  | coe r => exact absurd ⟨r, rfl⟩ h

/-- A sum is real only if its first term is. -/
theorem IsReal.of_add {x y : EReal} (h : IsReal (x + y)) : IsReal x := by
  by_contra hx
  obtain ⟨r, hr⟩ := h
  rcases infinite hx with rfl | rfl
  · induction y with
    | bot => simp at hr
    | top => simp at hr
    | coe s => simp at hr
  · simp at hr

/-- The members of `f` are all real, or they are all the same number. -/
def Even {ι : Type} (f : ι → EReal) : Prop := (∀ i, IsReal (f i)) ∨ ∃ c, ∀ i, f i = c

namespace Even

variable {ι : Type} {f g : ι → EReal}

/-- A function that keeps real numbers real keeps a family even. -/
theorem map (h : Even f) {G : EReal → EReal} (hG : ∀ x, IsReal x → IsReal (G x)) : Even fun i => G (f i) := by
  rcases h with h | ⟨c, h⟩
  · exact .inl fun i => hG _ (h i)
  · exact .inr ⟨G c, fun i => congrArg G (h i)⟩

/-- Adding one number, whatever it is, keeps a family even. -/
theorem add_const (h : Even f) (c : EReal) : Even fun i => f i + c := by
  by_cases hc : IsReal c
  · exact h.map fun x hx => hx.add hc
  · rcases h with h | ⟨d, h⟩
    · refine .inr ⟨c, fun i => ?_⟩
      obtain ⟨r, hr⟩ := h i
      rcases infinite hc with rfl | rfl <;> simp [hr]
    · exact .inr ⟨d + c, fun i => congrArg (· + c) (h i)⟩

/-- Two even families add up to an even one. -/
theorem add (hf : Even f) (hg : Even g) : Even fun i => f i + g i := by
  rcases hg with hg' | ⟨c, hc⟩
  · rcases hf with hf' | ⟨d, hd⟩
    · exact .inl fun i => (hf' i).add (hg' i)
    · have e := add_const (.inl hg') d
      simpa only [hd, add_comm] using e
  · simpa only [hc] using hf.add_const c

/-- Finitely many even families add up to an even one. -/
theorem sum {n : ℕ} {h : Fin n → ι → EReal} (hh : ∀ k, Even (h k)) : Even fun i => ∑ k, h k i := by
  induction n with
  | zero => exact .inr ⟨0, fun i => by simp⟩
  | succ n ih =>
    simp only [Fin.sum_univ_succ]
    exact (hh 0).add (ih fun k => hh k.succ)

end Even

/-- `n + 1` times an infinity is the infinity. -/
theorem sum_infinite {n : ℕ} {c : EReal} (hc : c = ⊤ ∨ c = ⊥) : ∑ _k : Fin (n + 1), c = c := by
  induction n with
  | zero => simp
  | succ n ih =>
    rw [Fin.sum_univ_succ, ih]
    rcases hc with rfl | rfl <;> simp

/-- An infinity times a positive real is the infinity. -/
theorem infinite_mul {c : EReal} (hc : c = ⊤ ∨ c = ⊥) {r : ℝ} (hr : 0 < r) : c * (r : EReal) = c := by
  rcases hc with rfl | rfl
  · exact EReal.top_mul_coe_of_pos hr
  · exact EReal.bot_mul_coe_of_pos hr

/-- The two orders of pooling agree on a bag whose entries are all the same infinity, too. -/
theorem pool_order_infinite {n : ℕ} {c : EReal} (hc : c = ⊤ ∨ c = ⊥) {d : Fin (n + 1) → EReal} (hd : ∀ i, IsReal (d i)) :
    Ideal.div (∑ i, c * Ideal.exp (d i)) (∑ i, Ideal.exp (d i))
      = ∑ i, c * Ideal.div (Ideal.exp (d i)) (∑ k, Ideal.exp (d k)) := by
  choose b hb using hd
  have hs : (∑ i, Ideal.exp (d i)) = ((∑ i, Real.exp (b i) : ℝ) : EReal) := by
    rw [coe_sum]
    exact Finset.sum_congr rfl fun i _ => by rw [hb i, Ideal.exp_coe]
  have hpos : (0 : ℝ) < ∑ i, Real.exp (b i) := Finset.sum_pos (fun i _ => Real.exp_pos _) Finset.univ_nonempty
  have l (i) : c * Ideal.exp (d i) = c := by rw [hb i, Ideal.exp_coe, infinite_mul hc (Real.exp_pos _)]
  have r (i) : c * Ideal.div (Ideal.exp (d i)) (∑ k, Ideal.exp (d k)) = c := by
    rw [hs, hb i, Ideal.exp_coe, div_real hpos.ne', infinite_mul hc (div_pos (Real.exp_pos _) hpos)]
  simp only [l, r]
  rw [sum_infinite hc, hs, Ideal.div_coe hpos.ne', infinite_mul hc (one_div_pos.2 hpos)]

/-- Zero or an infinity: all that a number can be which is a sum of products with an infinity. -/
def Coarse (x : EReal) : Prop := x = 0 ∨ x = ⊤ ∨ x = ⊥

/-- A coarse number times any number is coarse. -/
theorem Coarse.mul {x : EReal} (hx : Coarse x) (y : EReal) : Coarse (x * y) := by
  rcases hx with rfl | rfl | rfl
  · exact .inl (zero_mul y)
  · rcases lt_trichotomy y 0 with h | rfl | h
    · exact .inr (.inr (EReal.top_mul_of_neg h))
    · exact .inl (mul_zero _)
    · exact .inr (.inl (EReal.top_mul_of_pos h))
  · rcases lt_trichotomy y 0 with h | rfl | h
    · exact .inr (.inl (EReal.bot_mul_of_neg h))
    · exact .inl (mul_zero _)
    · exact .inr (.inr (EReal.bot_mul_of_pos h))

/-- Finitely many coarse numbers add up to a coarse one. -/
theorem Coarse.sum {n : ℕ} {f : Fin n → EReal} (h : ∀ i, Coarse (f i)) : Coarse (∑ i, f i) := by
  induction n with
  | zero => exact .inl (by simp)
  | succ n ih =>
    rw [Fin.sum_univ_succ]
    rcases h 0 with e | e | e <;> rcases ih fun i => h i.succ with e' | e' | e' <;> rw [e, e'] <;> simp [Coarse]

/-- A sum of numbers none of which is negative, one of them the upper infinity, is the upper infinity. -/
theorem sum_top {n : ℕ} {f : Fin n → EReal} (h : ∀ i, 0 ≤ f i) (k : Fin n) (hk : f k = ⊤) : ∑ i, f i = ⊤ :=
  top_le_iff.1 (hk ▸ Finset.single_le_sum (fun i _ => h i) (Finset.mem_univ k))

end Cert.Hand

end
-- ==== Proof.Net.lean ====
/- The classifier as mathematics over the extended reals: the embedding and the attention logit of one row, the pooled
   vector of one bag, and the output network with its batch normalisation. The pooling and the normalisation are written
   twice, in the kernel's order and in the reference's, and shown equal. -/
module

public import proofs.«01_k».proof.Proof.Consts
public import proofs.«01_k».proof.Proof.Even

@[expose] public section

noncomputable section

namespace Cert.Hand

open Idealize.ShloMosaic

/-- One dense layer: the row `v` through the matrix `W`, plus the bias `b`. -/
def dense {n k : ℕ} (W : Fin n → Fin k → EReal) (b : Fin k → EReal) (v : Fin n → EReal) (l : Fin k) : EReal :=
  ∑ i, v i * W i l + b l

/-- The activation: linear above zero, a scaled exponential below. -/
def selu (x : EReal) : EReal :=
  Ideal.ofBits .f32 0x3F867D5F#32 * if 0 < x then x else Ideal.ofBits .f32 0x3FD62D7D#32 * (Ideal.exp x - 1)

/-- The weights and biases of the three networks. -/
@[ext] structure Weights where
  We : Fin 575 → Fin 100 → EReal
  be : Fin 100 → EReal
  W1 : Fin 100 → Fin 50 → EReal
  b1 : Fin 50 → EReal
  W2 : Fin 50 → Fin 50 → EReal
  b2 : Fin 50 → EReal
  W3 : Fin 50 → Fin 1 → EReal
  b3 : Fin 1 → EReal
  Wo1 : Fin 100 → Fin 512 → EReal
  bo1 : Fin 512 → EReal
  gamma : Fin 512 → EReal
  beta : Fin 512 → EReal
  Wo2 : Fin 512 → Fin 50 → EReal
  bo2 : Fin 50 → EReal
  Wo3 : Fin 50 → Fin 2 → EReal
  bo3 : Fin 2 → EReal

namespace Weights

variable (w : Weights)

/-- A row's embedding. -/
def emb (v : Fin 575 → EReal) : Fin 100 → EReal := dense w.We w.be v

/-- The second attention layer of a row, before its activation. -/
def pre (v : Fin 575 → EReal) : Fin 50 → EReal :=
  dense w.W2 w.b2 fun i => selu (dense w.W1 w.b1 (w.emb v) i)

/-- A row's attention logit. -/
def att (v : Fin 575 → EReal) : EReal := dense w.W3 w.b3 (fun i => selu (w.pre v i)) 0

/-- The greatest logit of a bag. -/
def top (bag : Fin 2048 → Fin 575 → EReal) : EReal := Finset.univ.fold max ⊥ fun k => w.att (bag k)

/-- The exponential weight of a bag's row. -/
def soft (bag : Fin 2048 → Fin 575 → EReal) (k : Fin 2048) : EReal := Ideal.exp (w.att (bag k) - w.top bag)

/-- The pooled bag, weighted first and divided last. -/
def poolK (bag : Fin 2048 → Fin 575 → EReal) (l : Fin 100) : EReal :=
  Ideal.div (∑ k, w.emb (bag k) l * w.soft bag k) (∑ k, w.soft bag k)

/-- The pooled bag, each weight divided first. -/
def poolR (bag : Fin 2048 → Fin 575 → EReal) (l : Fin 100) : EReal :=
  ∑ k, w.emb (bag k) l * Ideal.div (w.soft bag k) (∑ k, w.soft bag k)

/-- The output network's first layer, before normalisation. -/
def hid (P : Fin 16 → Fin 100 → EReal) (b : Fin 16) : Fin 512 → EReal := dense w.Wo1 w.bo1 (P b)

/-- Its mean over the bags. -/
def mean (P : Fin 16 → Fin 100 → EReal) (l : Fin 512) : EReal :=
  Ideal.div (∑ b, w.hid P b l) (Ideal.ofBits .f32 0x41800000#32)

/-- Its variance over the bags. -/
def var (P : Fin 16 → Fin 100 → EReal) (l : Fin 512) : EReal :=
  Ideal.div (∑ b, (w.hid P b l - w.mean P l) * (w.hid P b l - w.mean P l)) (Ideal.ofBits .f32 0x41800000#32)

/-- The normalised layer, by the reciprocal square root. -/
def normK (P : Fin 16 → Fin 100 → EReal) (b : Fin 16) (l : Fin 512) : EReal :=
  (w.hid P b l - w.mean P l) * Ideal.rsqrt (w.var P l + Ideal.ofBits .f32 0x3727C5AC#32) * w.gamma l + w.beta l

/-- The normalised layer, by dividing by the square root. -/
def normR (P : Fin 16 → Fin 100 → EReal) (b : Fin 16) (l : Fin 512) : EReal :=
  Ideal.div (w.hid P b l - w.mean P l) (Ideal.sqrt (w.var P l + Ideal.ofBits .f32 0x3727C5AC#32)) * w.gamma l + w.beta l

/-- The output network after normalisation. -/
def head (N : Fin 16 → Fin 512 → EReal) (b : Fin 16) : Fin 2 → EReal :=
  dense w.Wo3 w.bo3 fun i => selu (dense w.Wo2 w.bo2 (fun l => selu (N b l)) i)

/-- The weights of the embedding and of the attention network are all real. The biases may be anything. -/
structure Finite : Prop where
  We : ∀ i l, IsReal (w.We i l)
  W1 : ∀ i l, IsReal (w.W1 i l)
  W2 : ∀ i l, IsReal (w.W2 i l)
  W3 : ∀ i l, IsReal (w.W3 i l)

end Weights

/-- The activation of a real number is real. -/
theorem IsReal.selu {x : EReal} (hx : IsReal x) : IsReal (Cert.Hand.selu x) := by
  refine scale_real.mul ?_
  split
  · exact hx
  · exact slope_real.mul (hx.exp.sub ⟨1, EReal.coe_one.symm⟩)

/-- A dense layer with real weights takes even families of entries to even families, whatever its bias. -/
theorem even_dense {ι : Type} {n k : ℕ} {W : Fin n → Fin k → EReal} {b : Fin k → EReal} {v : ι → Fin n → EReal}
    (hW : ∀ i l, IsReal (W i l)) (hv : ∀ i, Even fun p => v p i) (l : Fin k) : Even fun p => dense W b (v p) l :=
  (Even.sum fun i => (hv i).map (G := (· * W i l)) fun _ hx => hx.mul (hW i l)).add_const (b l)

namespace Weights

variable {w : Weights}

/-- An entry of the embedding is real for all real rows, or the same for all rows. -/
theorem emb_even (h : w.Finite) {ι : Type} {v : ι → Fin 575 → EReal} (hv : ∀ p i, IsReal (v p i)) (l : Fin 100) :
    Even fun p => w.emb (v p) l :=
  even_dense h.We (fun i => .inl fun p => hv p i) l

/-- The logits of real rows are all real, or all the same. -/
theorem att_even (h : w.Finite) {ι : Type} {v : ι → Fin 575 → EReal} (hv : ∀ p i, IsReal (v p i)) :
    Even fun p => w.att (v p) :=
  even_dense h.W3 (fun i => (even_dense h.W2 (fun j => (even_dense h.W1 (emb_even h hv) j).map
    fun _ => IsReal.selu) i).map fun _ => IsReal.selu) 0

/-- The two orders of pooling agree on a real bag with real logits. -/
theorem pool_eq (h : w.Finite) {bag : Fin 2048 → Fin 575 → EReal} (hb : ∀ k i, IsReal (bag k i))
    (ha : ∀ k, IsReal (w.att (bag k))) (l : Fin 100) : w.poolK bag l = w.poolR bag l := by
  have hd := fun k => (ha k).sub (isReal_max ha)
  rcases emb_even h hb l with e | ⟨c, e⟩
  · exact pool_order e hd
  · have e : ∀ k, w.emb (bag k) l = c := e
    by_cases hc : IsReal c
    · exact pool_order (fun k => by rw [e k]; exact hc) hd
    · unfold poolK poolR
      simp only [e]
      exact pool_order_infinite (infinite hc) hd

/-- If all logits of a bag are the same infinity, every exponential weight is zero. -/
theorem soft_zero {c : EReal} (hc : c = ⊤ ∨ c = ⊥) {bag : Fin 2048 → Fin 575 → EReal} (ha : ∀ k, w.att (bag k) = c)
    (k : Fin 2048) : w.soft bag k = 0 := by
  have e : w.top bag = c := by
    show Finset.univ.sup (fun k => w.att (bag k)) = c
    obtain ⟨i, -, hi⟩ := Finset.exists_mem_eq_sup Finset.univ Finset.univ_nonempty fun k => w.att (bag k)
    rw [hi, ha]
  unfold soft
  rw [e, ha]
  rcases hc with rfl | rfl <;> simp

/-- Both orders of pooling then give zeros and infinities only. -/
theorem pool_coarse {c : EReal} (hc : c = ⊤ ∨ c = ⊥) {bag : Fin 2048 → Fin 575 → EReal} (ha : ∀ k, w.att (bag k) = c)
    (l : Fin 100) : Coarse (w.poolK bag l) ∧ Coarse (w.poolR bag l) := by
  have q : Ideal.div 0 0 = ⊥ := by simp [Ideal.div]
  unfold poolK poolR
  simp only [soft_zero hc ha, mul_zero, Finset.sum_const_zero, q]
  refine ⟨.inr (.inr rfl), Coarse.sum fun k => ?_⟩
  rw [mul_comm]
  exact Coarse.mul (.inr (.inr rfl)) _

/-- A variance is not negative. -/
theorem var_nonneg (P : Fin 16 → Fin 100 → EReal) (l : Fin 512) : 0 ≤ w.var P l := by
  unfold var
  rw [sixteen_word]
  exact div_nonneg (Finset.sum_nonneg fun b _ => sq_nonneg _) (by norm_num)

/-- The two normalisations agree, whatever the numbers are. -/
theorem norm_eq (P : Fin 16 → Fin 100 → EReal) : w.normK P = w.normR P := by
  funext b l
  unfold normK normR
  rw [mul_rsqrt (lt_of_lt_of_le eps_pos (le_add_of_nonneg_left (var_nonneg P l)))]

/-- If an entry of the first output layer is infinite in one bag, its variance is the upper infinity. -/
theorem var_top {P : Fin 16 → Fin 100 → EReal} {l : Fin 512} {b : Fin 16} (h : ¬ IsReal (w.hid P b l)) :
    w.var P l = ⊤ := by
  have hd : ¬ IsReal (w.hid P b l - w.mean P l) := fun hr => h (IsReal.of_add hr)
  unfold var
  rw [sum_top (fun b => sq_nonneg _) b (by rcases infinite hd with e | e <;> rw [e] <;> simp), sixteen_word,
    Ideal.div_coe (by norm_num)]
  exact EReal.top_mul_coe_of_pos (by norm_num)

/-- If an entry of the first output layer is the same real number in every bag, it is equal to its mean. -/
theorem sub_mean {P : Fin 16 → Fin 100 → EReal} {l : Fin 512} {r : ℝ} (h : ∀ b, w.hid P b l = (r : EReal)) (b : Fin 16) :
    w.hid P b l - w.mean P l = 0 := by
  unfold mean
  simp only [h]
  rw [← coe_sum, sixteen_word, div_real (by norm_num), ← EReal.coe_sub]
  simp

/-- On pooled bags of zeros and infinities the normalised layer is the shift alone. -/
theorem norm_coarse {P : Fin 16 → Fin 100 → EReal} (hP : ∀ b i, Coarse (P b i)) (b : Fin 16) (l : Fin 512) :
    w.normK P b l = w.beta l := by
  unfold normK
  by_cases h : ∀ b, IsReal (w.hid P b l)
  · have e (b : Fin 16) : w.hid P b l = w.bo1 l := by
      have hs : Coarse (∑ i, P b i * w.Wo1 i l) := Coarse.sum fun i => (hP b i).mul _
      obtain ⟨r, hr⟩ := IsReal.of_add (h b)
      rcases hs with e | e | e
      · exact (congrArg (· + w.bo1 l) e).trans (zero_add _)
      · simp [e] at hr
      · simp [e] at hr
    obtain ⟨r, hr⟩ := h 0
    rw [sub_mean (fun b => (e b).trans ((e 0).symm.trans hr)) b, zero_mul, zero_mul, zero_add]
  · obtain ⟨b', hb⟩ := not_forall.1 h
    rw [var_top hb, EReal.top_add_of_ne_bot (bot_lt_iff_ne_bot.1 (lt_trans EReal.bot_lt_zero eps_pos)), Ideal.rsqrt_top,
      mul_zero, zero_mul, zero_add]

/-- The kernel's network and the reference's network give the same numbers on real bags. Either every logit is real, and
    the two orders of pooling agree; or an infinite bias has made all of them the same infinity, and the normalisation
    leaves nothing of either. -/
theorem nets_eq (h : w.Finite) {bags : Fin 16 → Fin 2048 → Fin 575 → EReal} (hb : ∀ b k i, IsReal (bags b k i))
    (b : Fin 16) (j : Fin 2) :
    w.head (w.normK fun b => w.poolK (bags b)) b j = w.head (w.normR fun b => w.poolR (bags b)) b j := by
  rw [← norm_eq]
  by_cases ha : ∀ b k, IsReal (w.att (bags b k))
  · have e : (fun b => w.poolK (bags b)) = fun b => w.poolR (bags b) :=
      funext fun b => funext fun l => pool_eq h (hb b) (ha b) l
    rw [e]
  · obtain ⟨c, hc, e⟩ : ∃ c, (c = ⊤ ∨ c = ⊥) ∧ ∀ b k, w.att (bags b k) = c := by
      rcases att_even h (ι := Fin 16 × Fin 2048) (v := fun p => bags p.1 p.2) (fun p => hb p.1 p.2) with e | ⟨c, e⟩
      · exact absurd (fun b k => e (b, k)) ha
      · have e : ∀ b k, w.att (bags b k) = c := fun b k => e (b, k)
        exact ⟨c, infinite fun hc => ha fun b k => by rw [e b k]; exact hc, e⟩
    have eK := funext₂ (norm_coarse (w := w) fun b i => (pool_coarse hc (e b) i).1)
    have eR := funext₂ (norm_coarse (w := w) fun b i => (pool_coarse hc (e b) i).2)
    rw [eK, eR]

end Weights

end Cert.Hand

end
-- ==== Proof.Payload.lean ====
/- What the kernel's body computes at one grid point, as the classifier's mathematics: the two pooled bags of the point's
   block of rows, and the output network on the pooled array. -/
module

public import proofs.«01_k».proof.Proof.Inputs
public import proofs.«01_k».proof.Proof.Net
public import Idealize.ShloMosaic.Lib.Pointwise

@[expose] public section

set_option maxRecDepth 16384

noncomputable section

namespace Cert.Hand

open Idealize.ShloMosaic
open Cert.KernelIdeal Cert.KernelIdeal.Gen Cert.KernelIdeal.Hand

/-- A maximum over pairs whose second part says nothing is the maximum over the first parts. -/
theorem fold_pair {n : ℕ} (f : Fin n → EReal) :
    Finset.univ.fold max ⊥ (fun x : Fin n × Fin 1 => f x.1) = Finset.univ.fold max ⊥ f := by
  show Finset.univ.sup (fun x : Fin n × Fin 1 => f x.1) = Finset.univ.sup f
  refine le_antisymm (Finset.sup_le fun x _ => Finset.le_sup (f := f) (Finset.mem_univ x.1)) (Finset.sup_le fun k _ => ?_)
  exact Finset.le_sup (f := fun x : Fin n × Fin 1 => f x.1) (Finset.mem_univ (k, 0))

/-- The pooled bag with its maximum taken over pairs. -/
theorem poolK_pair (w : Weights) (bag : Fin 2048 → Fin 575 → EReal) (l : Fin 100) :
    w.poolK bag l = Ideal.div
      (∑ k, w.emb (bag k) l * Ideal.exp (w.att (bag k)
        - Finset.univ.fold max ⊥ fun x : Fin 2048 × Fin 1 => w.att (bag x.1)))
      (∑ k, Ideal.exp (w.att (bag k) - Finset.univ.fold max ⊥ fun x : Fin 2048 × Fin 1 => w.att (bag x.1))) := by
  rw [fold_pair fun k => w.att (bag k)]
  rfl

/-- The weights that a point's blocks hold. -/
def blockWeights (X : Blocks Ideal) : Weights where
  We i l := X.x1 (ix2 i l)
  be l := X.x2 (ix2 0 l)
  W1 i l := X.x3 (ix2 i l)
  b1 l := X.x4 (ix2 0 l)
  W2 i l := X.x5 (ix2 i l)
  b2 l := X.x6 (ix2 0 l)
  W3 i l := X.x7 (ix2 i l)
  b3 l := X.x8 (ix2 0 l)
  Wo1 i l := X.x9 (ix2 i l)
  bo1 l := X.x10 (ix2 0 l)
  gamma l := X.x11 (ix2 0 l)
  beta l := X.x12 (ix2 0 l)
  Wo2 i l := X.x13 (ix2 i l)
  bo2 l := X.x14 (ix2 0 l)
  Wo3 i l := X.x15 (ix2 i l)
  bo3 l := X.x16 (ix2 0 l)

/-- Row `r` of a point's block. -/
def blockRow (X : Blocks Ideal) (r : Fin 4096) (i : Fin 575) : EReal := X.x0 (ix2 r i)

/-- The block's first bag: its rows 0 to 2047. -/
def bag0 (X : Blocks Ideal) (k : Fin 2048) : Fin 575 → EReal := blockRow X ⟨k.val, by omega⟩

/-- The block's second bag: its rows 2048 to 4095. -/
def bag1 (X : Blocks Ideal) (k : Fin 2048) : Fin 575 → EReal := blockRow X ⟨2048 + k.val, by omega⟩

variable (X : Blocks Ideal)

/-- The body embeds each row. -/
theorem emb_read (r : Fin 4096) (l : Fin 100) : X.emb (ix2 r l) = (blockWeights X).emb (blockRow X r) l := by
  pointwise [Blocks.emb, k0_pay7]
  rfl

/-- The body's second attention layer, before its activation. -/
theorem pre_read (r : Fin 4096) (l : Fin 50) : X.pre2 (ix2 r l) = (blockWeights X).pre (blockRow X r) l := by
  have e : ∀ i, k0_pay7 X.x0 X.x1 X.x2 (ix2 r i) = (blockWeights X).emb (blockRow X r) i := emb_read X r
  pointwise [Blocks.pre2, k0_pay8]
  simp only [e]
  rfl

/-- The body's attention logit of each row. -/
theorem att_read (r : Fin 4096) :
    k0_pay10 X.pre2 X.pos2 X.x7 X.x8 (ix2 r 0) = (blockWeights X).att (blockRow X r) := by
  have e : ∀ i, k0_pay8 X.x0 X.x1 X.x2 X.x3 X.x4 X.x5 X.x6 (ix2 r i) = (blockWeights X).pre (blockRow X r) i := pre_read X r
  pointwise [k0_pay10, Blocks.pos2, Blocks.pre2, k0_pay9]
  simp only [e]
  rfl

/-- The first pooled row. -/
theorem row0_read (l : Fin 100) : X.row0 (ix2 0 l) = (blockWeights X).poolK (bag0 X) l := by
  pointwise [Blocks.row0, k0_pay11]
  simp only [emb_read, att_read, bot_word, Finset.univ_unique, Finset.sum_singleton]
  exact (poolK_pair _ _ l).symm

/-- The second pooled row. -/
theorem row1_read (l : Fin 100) : X.row1 (ix2 0 l) = (blockWeights X).poolK (bag1 X) l := by
  pointwise [Blocks.row1, k0_pay1, k0_pay12, k0_pay13, k0_pay14]
  simp only [emb_read, att_read, bot_word, Finset.univ_unique, Finset.sum_singleton]
  exact (poolK_pair _ _ l).symm

/-- The normalised layer on the pooled array `s`. -/
theorem norm_read (s : Vec Ideal S16x100 .f32) (b : Fin 16) (l : Fin 512) :
    k0_pay3 s X.x9 X.x10 X.x11 X.x12 (ix2 b l) = (blockWeights X).normK (fun b i => s (ix2 b i)) b l := by
  pointwise [k0_pay3]
  rfl

/-- The output network on the pooled array `s`. -/
theorem out_read (s : Vec Ideal S16x100 .f32) (b : Fin 16) (j : Fin 2) :
    X.out s (ix2 b j) = (blockWeights X).head ((blockWeights X).normK fun b i => s (ix2 b i)) b j := by
  pointwise [Blocks.out, k0_pay2, k0_pay4, k0_pay5, k0_pay6]
  simp only [norm_read]
  rfl

end Cert.Hand

end
-- ==== Proof.RefNet.lean ====
/- What the reference computes, stage by stage, as the classifier's mathematics. -/
module

public import proofs.«01_k».proof.Proof.Net
public import proofs.«01_k».proof.Proof.Gen.ReferenceIdeal.Read
public import Idealize.ShloMosaic.Lib.Pointwise

@[expose] public section

set_option maxRecDepth 16384

noncomputable section

namespace Cert.Hand

open Idealize.ShloMosaic
open Cert.ReferenceIdeal Cert.ReferenceIdeal.Gen Cert.ReferenceIdeal.Read

/-- An array of extended reals of the shape `s`. -/
abbrev Arr (s : Shape) : Type := (⟨s, .f32⟩ : BufTy).Contents (Elt Ideal)

/-- The reference's activation, which takes the exponential of zero where the number is above zero and does not use it. -/
theorem selu_stage {s : Shape} (x z a c : FVec Ideal s .f32) (i : s.Idx) (hz : z i = Ideal.ofBits .f32 0x00000000#32)
    (ha : a i = Ideal.ofBits .f32 0x3FD62D7D#32) (hc : c i = Ideal.ofBits .f32 0x3F867D5F#32) :
    (mulf c (select (cmpf .ogt x z) x (mulf a (Host.expm1 (select (cmpf .ogt x z) z x)))) : FVec Ideal s .f32) i =
      selu (x i) := by
  pointwise []

  rw [ha, hc, hz]
  unfold selu
  split <;> simp_all

/-- The reference divides by sixteen less the integer zero. -/
theorem sixteen_less : Ideal.ofBits .f32 0x41800000#32 - FloatOps.sitofp (F := Ideal) .f32 0#32 =
    Ideal.ofBits .f32 0x41800000#32 := by
  have h : FloatOps.sitofp (F := Ideal) .f32 0#32 = (0 : EReal) := by
    change (((0#32).toInt : ℝ) : EReal) = 0
    simp
  rw [h, sub_zero]

/-- Sixteen is positive. -/
theorem sixteen_pos : 0 < Ideal.ofBits .f32 0x41800000#32 := by
  rw [sixteen_word]
  exact EReal.coe_pos.mpr (by norm_num)

variable (x0 : Arr S32768x575) (x1 : Arr S575x100) (x2 : Arr S100) (x3 : Arr S100x50) (x4 : Arr S50) (x5 : Arr S50x50)
  (x6 : Arr S50) (x7 : Arr S50x1) (x8 : Arr S1) (x9 : Arr S100x512) (x10 : Arr S512) (x11 : Arr S512) (x12 : Arr S512)
  (x13 : Arr S512x50) (x14 : Arr S50) (x15 : Arr S50x2) (x16 : Arr S2)

/-- The weights that the reference's arguments hold. -/
def refWeights : Weights where
  We i l := x1 (ix2 i l)
  be l := x2 (ix1 l)
  W1 i l := x3 (ix2 i l)
  b1 l := x4 (ix1 l)
  W2 i l := x5 (ix2 i l)
  b2 l := x6 (ix1 l)
  W3 i l := x7 (ix2 i l)
  b3 l := x8 (ix1 l)
  Wo1 i l := x9 (ix2 i l)
  bo1 l := x10 (ix1 l)
  gamma l := x11 (ix1 l)
  beta l := x12 (ix1 l)
  Wo2 i l := x13 (ix2 i l)
  bo2 l := x14 (ix1 l)
  Wo3 i l := x15 (ix2 i l)
  bo3 l := x16 (ix1 l)

/-- Row `r` of the reference's rows. -/
def refRow (r : Fin 32768) (i : Fin 575) : EReal := x0 (ix2 r i)

/-- Bag `b`: rows `2048 b` to `2048 b + 2047`. -/
def refBag (b : Fin 16) (k : Fin 2048) : Fin 575 → EReal := refRow x0 ⟨b.val * 2048 + k.val, by omega⟩

/-- The reference embeds each row. -/
theorem ref_emb (r : Fin 32768) (l : Fin 100) :
    val_main_v3 (F := Ideal) x0 x1 x2 (ix2 r l)
      = (refWeights x1 x2 x3 x4 x5 x6 x7 x8 x9 x10 x11 x12 x13 x14 x15 x16).emb (refRow x0 r) l := by
  pointwise [val_main_v3, val_main_v0, val_main_v2, val_main_v1]
  rfl

/-- The reference's first attention layer, before its activation. -/
theorem ref_att1 (r : Fin 32768) (l : Fin 50) :
    val_main_v7 (F := Ideal) x0 x1 x2 x3 x4 (ix2 r l)
      = dense (refWeights x1 x2 x3 x4 x5 x6 x7 x8 x9 x10 x11 x12 x13 x14 x15 x16).W1 (refWeights x1 x2 x3 x4 x5 x6 x7 x8 x9 x10 x11 x12 x13 x14 x15 x16).b1 ((refWeights x1 x2 x3 x4 x5 x6 x7 x8 x9 x10 x11 x12 x13 x14 x15 x16).emb (refRow x0 r)) l := by
  pointwise [val_main_v7, val_main_v4, val_main_v6, val_main_v5]
  simp only [ref_emb x0 x1 x2 x3 x4 x5 x6 x7 x8 x9 x10 x11 x12 x13 x14 x15 x16]
  rfl

/-- The first activation. -/
theorem ref_selu1 (i : S32768x50.Idx) :
    val_main_v8 (F := Ideal) x0 x1 x2 x3 x4 i = selu (val_main_v7 (F := Ideal) x0 x1 x2 x3 x4 i) :=
  selu_stage (val_main_v7 x0 x1 x2 x3 x4) (val_main_call0_call0_v0 (F := Ideal)) (val_main_call0_call0_v7 (F := Ideal)) (val_main_call0_v1 (F := Ideal)) i rfl rfl rfl

/-- The second attention layer, before its activation. -/
theorem ref_pre (r : Fin 32768) (l : Fin 50) :
    val_main_v12 (F := Ideal) x0 x1 x2 x3 x4 x5 x6 (ix2 r l)
      = (refWeights x1 x2 x3 x4 x5 x6 x7 x8 x9 x10 x11 x12 x13 x14 x15 x16).pre (refRow x0 r) l := by
  pointwise [val_main_v12, val_main_v9, val_main_v11, val_main_v10]
  simp only [ref_selu1, ref_att1 x0 x1 x2 x3 x4 x5 x6 x7 x8 x9 x10 x11 x12 x13 x14 x15 x16]
  rfl

/-- The second activation. -/
theorem ref_selu2 (i : S32768x50.Idx) :
    val_main_v13 (F := Ideal) x0 x1 x2 x3 x4 x5 x6 i = selu (val_main_v12 (F := Ideal) x0 x1 x2 x3 x4 x5 x6 i) :=
  selu_stage (val_main_v12 x0 x1 x2 x3 x4 x5 x6) (val_main_call1_call0_v0 (F := Ideal)) (val_main_call1_call0_v7 (F := Ideal)) (val_main_call1_v1 (F := Ideal)) i rfl rfl rfl

/-- The attention logit of a row. -/
theorem ref_att (r : Fin 32768) :
    val_main_v17 (F := Ideal) x0 x1 x2 x3 x4 x5 x6 x7 x8 (ix2 r 0)
      = (refWeights x1 x2 x3 x4 x5 x6 x7 x8 x9 x10 x11 x12 x13 x14 x15 x16).att (refRow x0 r) := by
  pointwise [val_main_v17, val_main_v14, val_main_v16, val_main_v15]
  simp only [ref_selu2, ref_pre x0 x1 x2 x3 x4 x5 x6 x7 x8 x9 x10 x11 x12 x13 x14 x15 x16]
  rfl

/-- The logits laid out by bag. -/
theorem ref_logit (b : Fin 16) (k : Fin 2048) :
    val_main_v18 (F := Ideal) x0 x1 x2 x3 x4 x5 x6 x7 x8 (ix3 b k 0)
      = (refWeights x1 x2 x3 x4 x5 x6 x7 x8 x9 x10 x11 x12 x13 x14 x15 x16).att (refBag x0 b k) := by
  pointwise [val_main_v18]
  exact ref_att x0 x1 x2 x3 x4 x5 x6 x7 x8 x9 x10 x11 x12 x13 x14 x15 x16 _

/-- The greatest logit of a bag. -/
theorem ref_top (b : Fin 16) :
    val_main_v21 (F := Ideal) x0 x1 x2 x3 x4 x5 x6 x7 x8 (ix2 b 0)
      = (refWeights x1 x2 x3 x4 x5 x6 x7 x8 x9 x10 x11 x12 x13 x14 x15 x16).top (refBag x0 b) := by
  pointwise [val_main_v21, val_main_v20, val_main_v19, val_main_cst, val_main_cst_0]
  simp only [ref_logit x0 x1 x2 x3 x4 x5 x6 x7 x8 x9 x10 x11 x12 x13 x14 x15 x16, bot_word, bot_le, sup_of_le_right]
  rfl

/-- The exponential weight of a bag's row. -/
theorem ref_soft (b : Fin 16) (k : Fin 2048) :
    val_main_v25 (F := Ideal) x0 x1 x2 x3 x4 x5 x6 x7 x8 (ix3 b k 0)
      = (refWeights x1 x2 x3 x4 x5 x6 x7 x8 x9 x10 x11 x12 x13 x14 x15 x16).soft (refBag x0 b) k := by
  pointwise [val_main_v25, val_main_v24, val_main_v23, val_main_v22]
  rw [ref_logit x0 x1 x2 x3 x4 x5 x6 x7 x8 x9 x10 x11 x12 x13 x14 x15 x16,
    ref_top x0 x1 x2 x3 x4 x5 x6 x7 x8 x9 x10 x11 x12 x13 x14 x15 x16]
  rfl

/-- The pooled bags. -/
theorem ref_pool (b : Fin 16) (l : Fin 100) :
    val_main_v33 (F := Ideal) x0 x1 x2 x3 x4 x5 x6 x7 x8 (ix2 b l)
      = (refWeights x1 x2 x3 x4 x5 x6 x7 x8 x9 x10 x11 x12 x13 x14 x15 x16).poolR (refBag x0 b) l := by
  pointwise [val_main_v33, val_main_v32, val_main_v31, val_main_v30, val_main_v29, val_main_v28, val_main_v27,
    val_main_v26, val_main_cst_1, val_main_cst_2]
  simp only [ref_soft x0 x1 x2 x3 x4 x5 x6 x7 x8 x9 x10 x11 x12 x13 x14 x15 x16,
    ref_emb x0 x1 x2 x3 x4 x5 x6 x7 x8 x9 x10 x11 x12 x13 x14 x15 x16]
  rfl

/-- The bags as the reference pools them. -/
def refPool (b : Fin 16) : Fin 100 → EReal := (refWeights x1 x2 x3 x4 x5 x6 x7 x8 x9 x10 x11 x12 x13 x14 x15 x16).poolR (refBag x0 b)

/-- The output network's first layer. -/
theorem ref_hid (b : Fin 16) (l : Fin 512) :
    val_main_v37 (F := Ideal) x0 x1 x2 x3 x4 x5 x6 x7 x8 x9 x10 (ix2 b l)
      = (refWeights x1 x2 x3 x4 x5 x6 x7 x8 x9 x10 x11 x12 x13 x14 x15 x16).hid (refPool x0 x1 x2 x3 x4 x5 x6 x7 x8 x9 x10 x11 x12 x13 x14 x15 x16) b l := by
  pointwise [val_main_v37, val_main_v34, val_main_v36, val_main_v35]
  simp only [ref_pool x0 x1 x2 x3 x4 x5 x6 x7 x8 x9 x10 x11 x12 x13 x14 x15 x16]
  rfl

/-- Its mean over the bags. -/
theorem ref_mean (l : Fin 512) :
    val_main_v40 (F := Ideal) x0 x1 x2 x3 x4 x5 x6 x7 x8 x9 x10 (ix1 l)
      = (refWeights x1 x2 x3 x4 x5 x6 x7 x8 x9 x10 x11 x12 x13 x14 x15 x16).mean (refPool x0 x1 x2 x3 x4 x5 x6 x7 x8 x9 x10 x11 x12 x13 x14 x15 x16) l := by
  pointwise [val_main_v40, val_main_v39, val_main_v38, val_main_cst_3, val_main_cst_4]
  simp only [ref_hid x0 x1 x2 x3 x4 x5 x6 x7 x8 x9 x10 x11 x12 x13 x14 x15 x16]
  rfl

/-- Its variance over the bags. -/
theorem ref_var (l : Fin 512) :
    val_main_v41 (F := Ideal) x0 x1 x2 x3 x4 x5 x6 x7 x8 x9 x10 (ix1 l)
      = (refWeights x1 x2 x3 x4 x5 x6 x7 x8 x9 x10 x11 x12 x13 x14 x15 x16).var (refPool x0 x1 x2 x3 x4 x5 x6 x7 x8 x9 x10 x11 x12 x13 x14 x15 x16) l := by
  pointwise [val_main_v41, val_main_call2_v12, val_main_call2_cst_3, val_main_call2_v8, val_main_call2_cst_1,
    val_main_call2_v7, val_main_c, val_main_call2_v11, val_main_call2_v10, val_main_call2_v9, val_main_call2_cst_2,
    val_main_call2_v6, val_main_call2_v5, val_main_call2_v4, val_main_call2_v3, val_main_call2_v2,
    val_main_call2_cst_0, val_main_call2_v1, val_main_call2_v0, val_main_call2_cst]
  simp only [ref_hid x0 x1 x2 x3 x4 x5 x6 x7 x8 x9 x10 x11 x12 x13 x14 x15 x16]
  rw [sixteen_less, if_pos sixteen_pos]
  rfl

/-- The normalised layer. -/
theorem ref_norm (b : Fin 16) (l : Fin 512) :
    val_main_v56 (F := Ideal) x0 x1 x2 x3 x4 x5 x6 x7 x8 x9 x10 x11 x12 (ix2 b l)
      = (refWeights x1 x2 x3 x4 x5 x6 x7 x8 x9 x10 x11 x12 x13 x14 x15 x16).normR (refPool x0 x1 x2 x3 x4 x5 x6 x7 x8 x9 x10 x11 x12 x13 x14 x15 x16) b l := by
  pointwise [val_main_v56, val_main_v55, val_main_v54, val_main_v53, val_main_v52, val_main_v51, val_main_v50,
    val_main_v49, val_main_v48, val_main_v47, val_main_v46, val_main_v45, val_main_cst_5, val_main_v44, val_main_v43,
    val_main_v42]
  simp only [ref_hid x0 x1 x2 x3 x4 x5 x6 x7 x8 x9 x10 x11 x12 x13 x14 x15 x16,
    ref_mean x0 x1 x2 x3 x4 x5 x6 x7 x8 x9 x10 x11 x12 x13 x14 x15 x16,
    ref_var x0 x1 x2 x3 x4 x5 x6 x7 x8 x9 x10 x11 x12 x13 x14 x15 x16]
  rfl

/-- The activation after normalisation. -/
theorem ref_selu3 (i : S16x512.Idx) :
    val_main_v57 (F := Ideal) x0 x1 x2 x3 x4 x5 x6 x7 x8 x9 x10 x11 x12 i =
      selu (val_main_v56 (F := Ideal) x0 x1 x2 x3 x4 x5 x6 x7 x8 x9 x10 x11 x12 i) :=
  selu_stage (val_main_v56 x0 x1 x2 x3 x4 x5 x6 x7 x8 x9 x10 x11 x12) (val_main_call3_call0_v0 (F := Ideal)) (val_main_call3_call0_v7 (F := Ideal))
    (val_main_call3_v1 (F := Ideal)) i rfl rfl rfl

/-- The output network's second layer. -/
theorem ref_out2 (b : Fin 16) (l : Fin 50) :
    val_main_v61 (F := Ideal) x0 x1 x2 x3 x4 x5 x6 x7 x8 x9 x10 x11 x12 x13 x14 (ix2 b l) =
      dense (refWeights x1 x2 x3 x4 x5 x6 x7 x8 x9 x10 x11 x12 x13 x14 x15 x16).Wo2 (refWeights x1 x2 x3 x4 x5 x6 x7 x8 x9 x10 x11 x12 x13 x14 x15 x16).bo2 (fun l => selu ((refWeights x1 x2 x3 x4 x5 x6 x7 x8 x9 x10 x11 x12 x13 x14 x15 x16).normR (refPool x0 x1 x2 x3 x4 x5 x6 x7 x8 x9 x10 x11 x12 x13 x14 x15 x16) b l)) l := by
  pointwise [val_main_v61, val_main_v58, val_main_v60, val_main_v59]
  simp only [ref_selu3, ref_norm x0 x1 x2 x3 x4 x5 x6 x7 x8 x9 x10 x11 x12 x13 x14 x15 x16]
  rfl

/-- The last activation. -/
theorem ref_selu4 (i : S16x50.Idx) :
    val_main_v62 (F := Ideal) x0 x1 x2 x3 x4 x5 x6 x7 x8 x9 x10 x11 x12 x13 x14 i =
      selu (val_main_v61 (F := Ideal) x0 x1 x2 x3 x4 x5 x6 x7 x8 x9 x10 x11 x12 x13 x14 i) :=
  selu_stage (val_main_v61 x0 x1 x2 x3 x4 x5 x6 x7 x8 x9 x10 x11 x12 x13 x14) (val_main_call4_call0_v0 (F := Ideal))
    (val_main_call4_call0_v7 (F := Ideal)) (val_main_call4_v1 (F := Ideal)) i rfl rfl rfl

/-- The reference's result is the classifier's, with the bags pooled and the layer normalised in its order. -/
theorem ref_out (b : Fin 16) (j : Fin 2) :
    val_main_v66 (F := Ideal) x0 x1 x2 x3 x4 x5 x6 x7 x8 x9 x10 x11 x12 x13 x14 x15 x16 (ix2 b j) =
      (refWeights x1 x2 x3 x4 x5 x6 x7 x8 x9 x10 x11 x12 x13 x14 x15 x16).head ((refWeights x1 x2 x3 x4 x5 x6 x7 x8 x9 x10 x11 x12 x13 x14 x15 x16).normR fun b => (refWeights x1 x2 x3 x4 x5 x6 x7 x8 x9 x10 x11 x12 x13 x14 x15 x16).poolR (refBag x0 b)) b j := by
  pointwise [val_main_v66, val_main_v63, val_main_v65, val_main_v64]
  simp only [ref_selu4, ref_out2 x0 x1 x2 x3 x4 x5 x6 x7 x8 x9 x10 x11 x12 x13 x14 x15 x16]
  rfl

end Cert.Hand

end
-- ==== Proof.KernelNet.lean ====
/- The kernel's result as the classifier's mathematics: what its input blocks hold, read back to the arguments, and what
   its output array holds when the program ends. -/
module

public import proofs.«01_k».proof.Proof.Run
public import proofs.«01_k».proof.Proof.Payload
public import proofs.«01_k».proof.Proof.RefNet
public import Idealize.ShloMosaic.Lib.Pointwise

@[expose] public section

set_option maxRecDepth 16384

noncomputable section

namespace Cert.Hand

open Idealize.ShloMosaic Idealize.ShloMosaic.TcCoe
open Cert.KernelIdeal Cert.KernelIdeal.Gen Cert.KernelIdeal.Hand

/-- A whole array read through a block that starts at its origin is the array. -/
theorem read_origin {n k : ℕ} {α : Type} (f : Shape.Idx ⟨2, ![n, k]⟩ → α)
    {e : Shape.Idx ⟨2, ![n, k]⟩ → Shape.Idx ⟨2, ![n, k]⟩} (h0 : ∀ j, (e j 0).val = 0 * n + 1 * (j 0).val)
    (h1 : ∀ j, (e j 1).val = 0 * k + 1 * (j 1).val) : (fun j => f (e j)) = f :=
  funext fun j => congrArg f (funext fun a => Fin.ext (by
    match a with
    | ⟨0, _⟩ => exact (h0 j).trans (by rw [Nat.zero_mul, Nat.zero_add, Nat.one_mul]; rfl)
    | ⟨1, _⟩ => exact (h1 j).trans (by rw [Nat.zero_mul, Nat.zero_add, Nat.one_mul]; rfl)))

/-- A vector read as one row has the vector's entries. -/
theorem as_row {n : ℕ} {α : Type} (x : Shape.Idx ⟨1, ![n]⟩ → α) (h : Shape.ShapeCasts ⟨1, ![n]⟩ ⟨2, ![1, n]⟩) (l : Fin n) :
    shapeCast ⟨2, ![1, n]⟩ x h (ix2 (0 : Fin 1) l) = x (ix1 l) :=
  (shapeCast_addUnit_apply ![n] x h _).trans (congrArg x (funext fun a => by fin_cases a; rfl))

/-- The same, of an array known to be that row. -/
theorem row_entry {n : ℕ} {α : Type} {x y : Shape.Idx ⟨2, ![1, n]⟩ → α} {z : Shape.Idx ⟨1, ![n]⟩ → α}
    {h : Shape.ShapeCasts ⟨1, ![n]⟩ ⟨2, ![1, n]⟩} (w : x = y) (e : y = shapeCast ⟨2, ![1, n]⟩ z h) (l : Fin n) :
    x (ix2 (0 : Fin 1) l) = z (ix1 l) :=
  (congrFun (w.trans e) (ix2 0 l)).trans (as_row z h l)

variable (m : (ℓ : Loc nD τ sig) → Buf (Elt Ideal) ℓ) (c : Dev nD) (t : Fin cfg0.N)

/-- Argument `r` as launched. -/
abbrev arg (r : Ref sig .tc) : Buf (Elt Ideal) ((c : Thread nD τ).loc r) := m ((c : Thread nD τ).loc r)

/-- The weight matrices are handed to every point whole. -/
theorem whole_matrices :
    iblk m c 1 t = arg m c main_arg1
      ∧ iblk m c 3 t = arg m c main_arg3
      ∧ iblk m c 5 t = arg m c main_arg5
      ∧ iblk m c 7 t = arg m c main_arg7
      ∧ iblk m c 9 t = arg m c main_arg9
      ∧ iblk m c 13 t = arg m c main_arg13
      ∧ iblk m c 15 t = arg m c main_arg15 := by
  rw [arg, arg, arg, arg, arg, arg, arg, ← V_main_arg1 m c, ← V_main_arg3 m c, ← V_main_arg5 m c, ← V_main_arg7 m c, ← V_main_arg9 m c,
    ← V_main_arg13 m c, ← V_main_arg15 m c]
  exact ⟨read_origin (V m c main_arg1) (fun _ => rfl) fun _ => rfl,
    read_origin (V m c main_arg3) (fun _ => rfl) fun _ => rfl,
    read_origin (V m c main_arg5) (fun _ => rfl) fun _ => rfl,
    read_origin (V m c main_arg7) (fun _ => rfl) fun _ => rfl,
    read_origin (V m c main_arg9) (fun _ => rfl) fun _ => rfl,
    read_origin (V m c main_arg13) (fun _ => rfl) fun _ => rfl,
    read_origin (V m c main_arg15) (fun _ => rfl) fun _ => rfl⟩

/-- The biases, the scales and the shifts, as the host lays them out in rows. -/
theorem host_rows :
    V m c main_v1 = shapeCast S1x100 (arg m c main_arg2) shapeCasts_S100_S1x100
      ∧ V m c main_v2 = shapeCast S1x50 (arg m c main_arg4) shapeCasts_S50_S1x50
      ∧ V m c main_v3 = shapeCast S1x50 (arg m c main_arg6) shapeCasts_S50_S1x50
      ∧ V m c main_v4 = shapeCast S1x1 (arg m c main_arg8) shapeCasts_S1_S1x1
      ∧ V m c main_v5 = shapeCast S1x512 (arg m c main_arg10) shapeCasts_S512_S1x512
      ∧ V m c main_v6 = shapeCast S1x512 (arg m c main_arg11) shapeCasts_S512_S1x512
      ∧ V m c main_v7 = shapeCast S1x512 (arg m c main_arg12) shapeCasts_S512_S1x512
      ∧ V m c main_v8 = shapeCast S1x50 (arg m c main_arg14) shapeCasts_S50_S1x50
      ∧ V m c main_v9 = shapeCast S1x2 (arg m c main_arg16) shapeCasts_S2_S1x2 := by
  refine ⟨?_, ?_, ?_, ?_, ?_, ?_, ?_, ?_, ?_⟩ <;> (unfold V; after_results; rfl)

/-- Those rows are handed to every point whole. -/
theorem whole_rows :
    iblk m c 2 t = V m c main_v1
      ∧ iblk m c 4 t = V m c main_v2
      ∧ iblk m c 6 t = V m c main_v3
      ∧ iblk m c 8 t = V m c main_v4
      ∧ iblk m c 10 t = V m c main_v5
      ∧ iblk m c 11 t = V m c main_v6
      ∧ iblk m c 12 t = V m c main_v7
      ∧ iblk m c 14 t = V m c main_v8
      ∧ iblk m c 16 t = V m c main_v9 :=
  ⟨read_origin (V m c main_v1) (fun _ => rfl) fun _ => rfl,
    read_origin (V m c main_v2) (fun _ => rfl) fun _ => rfl,
    read_origin (V m c main_v3) (fun _ => rfl) fun _ => rfl,
    read_origin (V m c main_v4) (fun _ => rfl) fun _ => rfl,
    read_origin (V m c main_v5) (fun _ => rfl) fun _ => rfl,
    read_origin (V m c main_v6) (fun _ => rfl) fun _ => rfl,
    read_origin (V m c main_v7) (fun _ => rfl) fun _ => rfl,
    read_origin (V m c main_v8) (fun _ => rfl) fun _ => rfl,
    read_origin (V m c main_v9) (fun _ => rfl) fun _ => rfl⟩

/-- The weights that the kernel's arguments hold. -/
def argWeights : Weights :=
  refWeights (arg m c main_arg1) (arg m c main_arg2) (arg m c main_arg3) (arg m c main_arg4) (arg m c main_arg5)
    (arg m c main_arg6) (arg m c main_arg7) (arg m c main_arg8) (arg m c main_arg9) (arg m c main_arg10)
    (arg m c main_arg11) (arg m c main_arg12) (arg m c main_arg13) (arg m c main_arg14) (arg m c main_arg15)
    (arg m c main_arg16)

set_option maxHeartbeats 1000000 in
/-- Every point works with the arguments' weights. -/
theorem weights_eq : blockWeights (blocks m c t) = argWeights m c := by
  obtain ⟨w1, w3, w5, w7, w9, w13, w15⟩ := whole_matrices m c t
  obtain ⟨h2, h4, h6, h8, h10, h11, h12, h14, h16⟩ := host_rows m c
  obtain ⟨w2, w4, w6, w8, w10, w11, w12, w14, w16⟩ := whole_rows m c t
  have mat := fun {n k : ℕ} {x y : Shape.Idx ⟨2, ![n, k]⟩ → EReal} (h : x = y) => funext₂ fun i l => congrFun h (ix2 i l)
  apply Weights.ext
  · exact mat w1
  · exact funext (row_entry (n := 100) w2 h2)
  · exact mat w3
  · exact funext (row_entry (n := 50) w4 h4)
  · exact mat w5
  · exact funext (row_entry (n := 50) w6 h6)
  · exact mat w7
  · exact funext (row_entry (n := 1) w8 h8)
  · exact mat w9
  · exact funext (row_entry (n := 512) w10 h10)
  · exact funext (row_entry (n := 512) w11 h11)
  · exact funext (row_entry (n := 512) w12 h12)
  · exact mat w13
  · exact funext (row_entry (n := 50) w14 h14)
  · exact mat w15
  · exact funext (row_entry (n := 2) w16 h16)

/-- The host hands the rows of the input on as they are. -/
theorem host_x (x : Shape.Idx S32768x575) : (V m c main_v0 x : EReal) = arg m c main_arg0 x := by
  unfold V; after_results; rfl

/-- Row `r` of point `t`'s block is row `4096 t + r` of the input. -/
theorem block_row (r : Fin 4096) (h : t.val * 4096 + r.val < 32768) :
    blockRow (blocks m c t) r = refRow (arg m c main_arg0) ⟨t.val * 4096 + r.val, h⟩ := by
  funext i
  show V m c main_v0 _ = arg m c main_arg0 (ix2 _ i)
  rw [← host_x]
  refine congrArg (V m c main_v0) (funext fun a => Fin.ext ?_)
  match a with
  | ⟨0, _⟩ =>
    show (BitVec.ofNat 32 (grid0.coords t 0).val).toNat * 4096 + 1 * r.val = t.val * 4096 + r.val
    have ht : t.val < 8 := lt_of_lt_of_eq t.isLt N_0
    rw [coord_eq, BitVec.toNat_ofNat, Nat.mod_eq_of_lt (by omega), Nat.one_mul]
  | ⟨1, _⟩ => show 0 * 575 + 1 * i.val = i.val; omega

/-- Bag `b` lies in the block of point `b / 2`: its first half if `b` is even, its second half otherwise; and its pooled
    row is the attention's, with the division last. -/
theorem pool_read (b : Fin 16) (l : Fin 100) :
    pool m c (ix2 b l) = (argWeights m c).poolK (refBag (arg m c main_arg0) b) l := by
  have row (r : Fin 4096) (k : Fin 2048) (h : b.val / 2 * 4096 + r.val = b.val * 2048 + k.val) :
      blockRow (blocks m c (pointOf b)) r = refBag (arg m c main_arg0) b k :=
    (block_row m c (pointOf b) r (by show b.val / 2 * 4096 + r.val < _; omega)).trans
      (congrArg (refRow (arg m c main_arg0)) (Fin.ext h))
  show (if b.val % 2 = 0 then (blocks m c (pointOf b)).row0 (ix2 (0 : Fin 1) l)
    else (blocks m c (pointOf b)).row1 (ix2 (0 : Fin 1) l)) = _
  split
  · next e =>
    exact (row0_read (blocks m c (pointOf b)) l).trans (by
      rw [weights_eq, show bag0 (blocks m c (pointOf b)) = refBag (arg m c main_arg0) b from
        funext fun k => row _ k (by show b.val / 2 * 4096 + k.val = _; omega)])
  · next e =>
    exact (row1_read (blocks m c (pointOf b)) l).trans (by
      rw [weights_eq, show bag1 (blocks m c (pointOf b)) = refBag (arg m c main_arg0) b from
        funext fun k => row _ k (by show b.val / 2 * 4096 + (2048 + k.val) = _; omega)])

/-- What the last point stores. -/
theorem result_read (b : Fin 16) (j : Fin 2) : result m c t (ix2 b j)
    = (argWeights m c).head ((argWeights m c).normK fun b => (argWeights m c).poolK (refBag (arg m c main_arg0) b)) b j := by
  refine (out_read (blocks m c t) (pool m c) b j).trans ?_
  rw [weights_eq, funext₂ (pool_read m c)]

/-- The output array when the program ends: the last point's block is the whole of it. -/
theorem final : (dats m 0 c).arrAt 17 cfg0.N = result m c t0_7 := by
  refine (dats m 0 c).arrAt_eq_of_cover 17 (result m c t0_7) (fun t ht => ?_) (fun i => ?_)
  · have e : t = t0_7 := Fin.ext (by
      have := (flush0_17 t).mp ht
      have : t.val < 8 := lt_of_lt_of_eq t.isLt N_0
      show t.val = 7
      omega)
    subst e
    exact (read_origin (result m c t0_7) (fun _ => rfl) fun _ => rfl).symm
  · refine ⟨t0_7, (flush0_17 t0_7).mpr rfl, ?_⟩
    show i ∈ ((View.whole main_v10).slice (win0_17.rect t0_7)).set
    rw [View.set_slice_whole, Rect.mem_set_unit]
    intro a
    match a with
    | ⟨0, _⟩ => exact ⟨Nat.zero_le _, (i 0).isLt⟩
    | ⟨1, _⟩ => exact ⟨Nat.zero_le _, (i 1).isLt⟩

end Cert.Hand

end
-- ==== Proof.Tame.lean ====
/- What the precondition says: every entry of the rows, and of the weight matrices of the embedding and the attention
   network, is a real number. -/
module

public import proofs.«01_k».proof.Proof.RefNet
public import proofs.«01_k».proof.Pre_finite_network
public import Idealize.ShloMosaic.Lib.ReduceAll

@[expose] public section

set_option maxRecDepth 16384

noncomputable section

namespace Cert.Hand

open Idealize.ShloMosaic
open Cert.ReferenceIdeal

/-- The shapes of the precondition's operations fit together. -/
theorem tame_facts : Cert.Pre_finite_network.Facts where
  bcast_S_S32768x575 := by decide
  reducesTo_S32768x575_S_d0_1 := by decide
  h_S_ := by decide
  bcast_S_S575x100 := by decide
  reducesTo_S575x100_S_d0_1 := by decide
  bcast_S_S100x50 := by decide
  reducesTo_S100x50_S_d0_1 := by decide
  bcast_S_S50x50 := by decide
  reducesTo_S50x50_S_d0_1 := by decide
  bcast_S_S50x1 := by decide
  reducesTo_S50x1_S_d0_1 := by decide

/-- A scalar has one index. -/
instance scalar_index : Subsingleton (Shape.Idx S_) := ⟨fun _ _ => funext fun a => a.elim0⟩

/-- An array whose absolute values all test below the upper infinity holds real numbers. -/
theorem all_real {s : Shape} {axes : List (Fin s.rank)} (x c : FVec Ideal s .f32) (hc : ∀ i, c i = Ideal.ofBits .f32 0x7F800000#32)
    (one : IVec S_ 1) (h : s.ReducesTo axes S_) (hu : 0 < S_.numel) (j : Shape.Idx S_)
    (e : Host.reduce IntOp.andi (cmpf .olt (Host.absf x) c) one h hu j = 1#1) (i : s.Idx) : IsReal (x i) := by
  have hi := Host.reduce_andi_all _ one h hu j e i
  have hlt : max (x i) (-(x i)) < c i := by
    by_contra hn
    have hi : BitVec.ofBool (decide (max (x i) (-(x i)) < c i)) = 1#1 := hi
    rw [decide_eq_false hn] at hi
    exact absurd hi (by decide)
  rw [hc, top_word] at hlt
  exact isReal_of_abs_lt hlt

attribute [local instance] tame_facts

variable (x0 : Arr S32768x575) (x1 : Arr S575x100) (x2 : Arr S100) (x3 : Arr S100x50) (x4 : Arr S50) (x5 : Arr S50x50)
  (x6 : Arr S50) (x7 : Arr S50x1) (x8 : Arr S1) (x9 : Arr S100x512) (x10 : Arr S512) (x11 : Arr S512) (x12 : Arr S512)
  (x13 : Arr S512x50) (x14 : Arr S50) (x15 : Arr S50x2) (x16 : Arr S2) (x17 : IVec S16 32)

/-- The precondition: the rows are real, and so are the weight matrices of the embedding and the attention network. -/
theorem tame (e : Cert.Pre_finite_network.fn (F := Ideal) x0 x1 x2 x3 x4 x5 x6 x7 x8 x9 x10 x11 x12 x13 x14 x15 x16 x17 =
      fun _ => 1#1) :
    (∀ b k i, IsReal (refBag x0 b k i)) ∧
      (refWeights x1 x2 x3 x4 x5 x6 x7 x8 x9 x10 x11 x12 x13 x14 x15 x16).Finite := by
  have e := congrFun e ix0
  dsimp only [Cert.Pre_finite_network.fn, Cert.Pre_finite_network.fn_part1] at e
  obtain ⟨e, h7⟩ := IntOp.andi_eq_one.mp e
  obtain ⟨e, h5⟩ := IntOp.andi_eq_one.mp e
  obtain ⟨e, h3⟩ := IntOp.andi_eq_one.mp e
  obtain ⟨h0, h1⟩ := IntOp.andi_eq_one.mp e
  have r := fun {s : Shape} {axes : List (Fin s.rank)} (x c : FVec Ideal s .f32) hc one h hu e =>
    all_real (axes := axes) x c hc one h hu ix0 e
  refine ⟨fun b k i => r _ _ (fun _ => rfl) _ _ _ h0 _, ?_⟩
  exact {
    We := fun i l => r _ _ (fun _ => rfl) _ _ _ h1 _
    W1 := fun i l => r _ _ (fun _ => rfl) _ _ _ h3 _
    W2 := fun i l => r _ _ (fun _ => rfl) _ _ _ h5 _
    W3 := fun i l => r _ _ (fun _ => rfl) _ _ _ h7 _ }

end Cert.Hand

end
-- ==== Proof.Value.lean ====
/- The kernel's result is the reference's, over the extended reals, for every input whose rows and whose weight matrices
   up to the attention logits are finite. -/
module

public import proofs.«01_k».proof.Proof.Frames
public import proofs.«01_k».proof.Proof.KernelNet
public import proofs.«01_k».proof.Proof.Tame
public import proofs.«01_k».proof.Proof.Gen.ReferenceIdeal.Read

@[expose] public section

set_option maxRecDepth 16384

noncomputable section

namespace Cert.Hand

open Idealize.ShloMosaic Idealize.ShloMosaic.TcCoe Idealize.SL.Sem

/-- On finite inputs the last point's result is the reference's formula of the kernel's arguments: both are the output
    network on the pooled bags, and the two ways to pool and to normalise agree. -/
theorem result_eq (m : (ℓ : Loc Cert.KernelIdeal.nD Cert.KernelIdeal.τ Cert.KernelIdeal.sig) → Buf (Elt Ideal) ℓ)
    (hp : Cert.Pre_KernelIdeal_finite_network (hPre_finite_network := tame_facts) m) (c : Dev Cert.KernelIdeal.nD) :
    Cert.ReferenceIdeal.Read.val_main_v66 (F := Ideal) (arg m c Cert.KernelIdeal.main_arg0)
      (arg m c Cert.KernelIdeal.main_arg1) (arg m c Cert.KernelIdeal.main_arg2) (arg m c Cert.KernelIdeal.main_arg3)
      (arg m c Cert.KernelIdeal.main_arg4) (arg m c Cert.KernelIdeal.main_arg5) (arg m c Cert.KernelIdeal.main_arg6)
      (arg m c Cert.KernelIdeal.main_arg7) (arg m c Cert.KernelIdeal.main_arg8) (arg m c Cert.KernelIdeal.main_arg9)
      (arg m c Cert.KernelIdeal.main_arg10) (arg m c Cert.KernelIdeal.main_arg11) (arg m c Cert.KernelIdeal.main_arg12)
      (arg m c Cert.KernelIdeal.main_arg13) (arg m c Cert.KernelIdeal.main_arg14) (arg m c Cert.KernelIdeal.main_arg15)
      (arg m c Cert.KernelIdeal.main_arg16)
    = Cert.KernelIdeal.Hand.result m c Cert.KernelIdeal.Gen.t0_7 := by
  obtain ⟨hb, hw⟩ := tame _ _ _ _ _ _ _ _ _ _ _ _ _ _ _ _ _ _ (hp c)
  funext x
  rw [show x = ValueIdx.ix2 (x 0) (x 1) from funext fun a => by fin_cases a <;> rfl]
  exact (ref_out _ _ _ _ _ _ _ _ _ _ _ _ _ _ _ _ _ (x 0) (x 1)).trans
    ((Weights.nets_eq hw hb (x 0) (x 1)).symm.trans (result_read m c Cert.KernelIdeal.Gen.t0_7 (x 0) (x 1)).symm)

/-- The kernel and the reference end with the same result. -/
theorem algebraic : Cert.algebraic_KernelIdeal_ReferenceIdeal_pre_finite_network
    (hKernelIdeal := Cert.KernelIdeal.Gen.facts) (hReferenceIdeal := Cert.ReferenceIdeal.Gen.facts)
    (hPre_finite_network := tame_facts) := fun m g m' g' hp ha => by
  have hk := Cert.KernelIdeal.Hand.run_all m g
  have hr := Cert.ReferenceIdeal.Value.run m' g'
  refine ⟨fun c => Cert.KernelIdeal.Hand.result m c Cert.KernelIdeal.Gen.t0_7,
    (θ_run Cert.KernelIdeal.defs _ _).mono (fun r h c => ⟨((h.1.1 c).1 17).trans (final m c), h.2 c⟩)
      (θ_run_and hk (Cert.KernelIdeal.Gen.frame_of m g (Cert.KernelIdeal.Hand.dats m) (Cert.KernelIdeal.Hand.A_eq m)
        ((θ_run Cert.KernelIdeal.defs _ _).mono (fun _ h => h.1) hk))),
    (θ_run Cert.ReferenceIdeal.defs _ _).mono (fun r h c => ⟨?_, (h c).2⟩) hr⟩
  refine ((h c).1.trans (Cert.ReferenceIdeal.Read.val_main_v66_eq _)).trans (Eq.trans ?_ (result_eq m hp c))
  obtain ⟨h0, h1, h2, h3, h4, h5, h6, h7, h8, h9, h10, h11, h12, h13, h14, h15, h16, -⟩ := ha c
  simp only [arg, ← h0, ← h1, ← h2, ← h3, ← h4, ← h5, ← h6, ← h7, ← h8, ← h9, ← h10, ← h11, ← h12, ← h13, ← h14, ← h15,
    ← h16]

end Cert.Hand

end
-- ==== Proof.lean ====
/- The certificate: the frames of the kernel, of its idealization and of the reference, and the kernel's result equal to
   the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem

/-- Everything the certificate claims. The frames under the condition are the unconditional ones. -/
theorem claim : Cert.Claim :=
  ⟨Cert.Kernel.Gen.facts, Cert.KernelIdeal.Gen.facts, Cert.ReferenceIdeal.Gen.facts, Cert.Hand.tame_facts,
    Cert.Hand.frame_bits, Cert.Hand.frame_kernel, fun m ρ _ => Cert.Hand.frame_kernel m ρ trivial,
    Cert.Hand.frame_reference, fun m ρ _ => Cert.Hand.frame_reference m ρ trivial, trivial, Cert.Hand.algebraic⟩

end Cert.Proof

end
